-- ==== Defs.lean ====
def Pre_Kernel [hPre_sizes_cover_rows : Cert.Pre_sizes_cover_rows.Facts] (m : (ℓ : Loc Cert.Kernel.nD Cert.Kernel.τ Cert.Kernel.sig) → Buf (Elt Bits) ℓ) : Prop :=
  ∀ c : Dev Cert.Kernel.nD,
    (Cert.Pre_sizes_cover_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_sizes_cover_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2 = (fun _ => 1#1)

def Pre_KernelIdeal [hPre_sizes_cover_rows : Cert.Pre_sizes_cover_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_cover_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_sizes_cover_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_cover_rows [hPre_sizes_cover_rows : Cert.Pre_sizes_cover_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_cover_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_sizes_cover_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] [hPre_sizes_cover_rows : Cert.Pre_sizes_cover_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_cover_rows : Cert.Pre_sizes_cover_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sizes_cover_rows [hReferenceIdeal : Cert.ReferenceIdeal.Facts] [hPre_sizes_cover_rows : Cert.Pre_sizes_cover_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_cover_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_cover_rows : Cert.Pre_sizes_cover_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_cover_rows : Cert.Pre_sizes_cover_rows.Facts),
    quiescent_Kernel (hKernel := hKernel) (hPre_sizes_cover_rows := hPre_sizes_cover_rows)
    ∧ quiescent_KernelIdeal (hKernelIdeal := hKernelIdeal) (hPre_sizes_cover_rows := hPre_sizes_cover_rows)
    ∧ quiescent_ReferenceIdeal (hReferenceIdeal := hReferenceIdeal)
    ∧ quiescent_ReferenceIdeal_pre_sizes_cover_rows (hReferenceIdeal := hReferenceIdeal) (hPre_sizes_cover_rows := hPre_sizes_cover_rows)
    ∧ preserves_Kernel_KernelIdeal
    ∧ algebraic_KernelIdeal_ReferenceIdeal (hKernelIdeal := hKernelIdeal) (hReferenceIdeal := hReferenceIdeal) (hPre_sizes_cover_rows := hPre_sizes_cover_rows)
-- ==== Pre_sizes_cover_rows.lean ====
abbrev S65536x3072 : Shape := ⟨2, ![65536, 3072]⟩
abbrev S16 : Shape := ⟨1, ![16]⟩
abbrev S16x2048x3072 : Shape := ⟨3, ![16, 2048, 3072]⟩
abbrev S16x2048 : Shape := ⟨2, ![16, 2048]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S65536x3072 .bf16) (main_arg1 : IVec S16 32) (main_arg2 : FVec F S16x2048x3072 .fp8e4m3) (main_arg3 : FVec F S16x2048 .f32) : IVec S16 1 × IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 65536#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 32 := constantI S_ 32 0#32
  let main_v5 : IVec S_ 32 := (fun x v => Host.reduce IntOp.addi x v reducesTo_S16_S_d0 h_S_) main_arg1 main_c_1
  let main_c_2 : IVec S_ 32 := constantI S_ 32 65536#32
  let main_v6 : IVec S_ 1 := cmpi .eq main_v5 main_c_2
  (main_v4, main_v6)
-- ==== Kernel.lean ====
abbrev S65536x3072 : Shape := ⟨2, ![65536, 3072]⟩
abbrev S16 : Shape := ⟨1, ![16]⟩
abbrev S16x2048x3072 : Shape := ⟨3, ![16, 2048, 3072]⟩
abbrev S16x2048 : Shape := ⟨2, ![16, 2048]⟩
abbrev S_ : Shape := ⟨0, ![]⟩
abbrev S143 : Shape := ⟨1, ![143]⟩
abbrev S1 : Shape := ⟨1, ![1]⟩
abbrev S1x16 : Shape := ⟨2, ![1, 16]⟩
abbrev S143x1 : Shape := ⟨2, ![143, 1]⟩
abbrev S143x16 : Shape := ⟨2, ![143, 16]⟩
abbrev S16x2048x1 : Shape := ⟨3, ![16, 2048, 1]⟩
abbrev S65536x2048 : Shape := ⟨2, ![65536, 2048]⟩
abbrev S512x3072 : Shape := ⟨2, ![512, 3072]⟩
abbrev S1x2048x3072 : Shape := ⟨3, ![1, 2048, 3072]⟩
abbrev S1x2048x1 : Shape := ⟨3, ![1, 2048, 1]⟩
abbrev S512x2048 : Shape := ⟨2, ![512, 2048]⟩
abbrev S2048x3072 : Shape := ⟨2, ![2048, 3072]⟩
abbrev S1x256x1 : Shape := ⟨3, ![1, 256, 1]⟩
abbrev S256x1 : Shape := ⟨2, ![256, 1]⟩
abbrev S1x256x3072 : Shape := ⟨3, ![1, 256, 3072]⟩
abbrev S256x3072 : Shape := ⟨2, ![256, 3072]⟩
abbrev S512x128 : Shape := ⟨2, ![512, 128]⟩
abbrev S512 : Shape := ⟨1, ![512]⟩
abbrev S512x1 : Shape := ⟨2, ![512, 1]⟩

abbrev nBuf : Space → Nat
  | .hbm => 144
  | .vmem => 10
  | .smem => 6
  | _ => 0

abbrev hbmTy0_0 (i : Nat) : BufTy := match i % 128 with
  | 0 => ⟨S65536x3072, .bf16⟩
  | 1 => ⟨S16, .i32⟩
  | 2 => ⟨S16x2048x3072, .fp8e4m3⟩
  | 3 => ⟨S16x2048, .f32⟩
  | 4 => ⟨S_, .i32⟩
  | 5 => ⟨S_, .i32⟩
  | 6 => ⟨S16, .i32⟩
  | 7 => ⟨S16, .i32⟩
  | 8 => ⟨S_, .i32⟩
  | 9 => ⟨S_, .i32⟩
  | 10 => ⟨S16, .i32⟩
  | 11 => ⟨S16, .i32⟩
  | 12 => ⟨S16, .i32⟩
  | 13 => ⟨S_, .i32⟩
  | 14 => ⟨S16, .i32⟩
  | 15 => ⟨S16, .i1⟩
  | 16 => ⟨S16, .i32⟩
  | 17 => ⟨S16, .i32⟩
  | 18 => ⟨S_, .i32⟩
  | 19 => ⟨S16, .i32⟩
  | 20 => ⟨S16, .i1⟩
  | 21 => ⟨S16, .i1⟩
  | 22 => ⟨S_, .i32⟩
  | 23 => ⟨S16, .i32⟩
  | 24 => ⟨S16, .i32⟩
  | 25 => ⟨S16, .i32⟩
  | 26 => ⟨S_, .i32⟩
  | 27 => ⟨S16, .i32⟩
  | 28 => ⟨S16, .i32⟩
  | 29 => ⟨S_, .i32⟩
  | 30 => ⟨S_, .i32⟩
  | 31 => ⟨S16, .i32⟩
  | 32 => ⟨S16, .i32⟩
  | 33 => ⟨S16, .i32⟩
  | 34 => ⟨S_, .i32⟩
  | 35 => ⟨S16, .i32⟩
  | 36 => ⟨S16, .i1⟩
  | 37 => ⟨S16, .i32⟩
  | 38 => ⟨S16, .i32⟩
  | 39 => ⟨S_, .i32⟩
  | 40 => ⟨S16, .i32⟩
  | 41 => ⟨S16, .i1⟩
  | 42 => ⟨S16, .i1⟩
  | 43 => ⟨S_, .i32⟩
  | 44 => ⟨S16, .i32⟩
  | 45 => ⟨S16, .i32⟩
  | 46 => ⟨S16, .i32⟩
  | 47 => ⟨S_, .i32⟩
  | 48 => ⟨S16, .i32⟩
  | 49 => ⟨S16, .i1⟩
  | 50 => ⟨S16, .i32⟩
  | 51 => ⟨S_, .i32⟩
  | 52 => ⟨S16, .i32⟩
  | 53 => ⟨S16, .i32⟩
  | 54 => ⟨S_, .i32⟩
  | 55 => ⟨S_, .i32⟩
  | 56 => ⟨S16, .i32⟩
  | 57 => ⟨S16, .i32⟩
  | 58 => ⟨S_, .i32⟩
  | 59 => ⟨S_, .i32⟩
  | 60 => ⟨S16, .i32⟩
  | 61 => ⟨S143, .i32⟩
  | 62 => ⟨S1, .i32⟩
  | 63 => ⟨S_, .i32⟩
  | 64 => ⟨S_, .i32⟩
  | 65 => ⟨S_, .i32⟩
  | 66 => ⟨S143, .i32⟩
  | 67 => ⟨S143, .i32⟩
  | 68 => ⟨S1x16, .i32⟩
  | 69 => ⟨S143x1, .i32⟩
  | 70 => ⟨S143x16, .i32⟩
  | 71 => ⟨S143x16, .i32⟩
  | 72 => ⟨S143x16, .i1⟩
  | 73 => ⟨S143x16, .i32⟩
  | 74 => ⟨S_, .i32⟩
  | 75 => ⟨S143, .i32⟩
  | 76 => ⟨S_, .i32⟩
  | 77 => ⟨S143, .i32⟩
  | 78 => ⟨S_, .i32⟩
  | 79 => ⟨S143, .i32⟩
  | 80 => ⟨S143, .i1⟩
  | 81 => ⟨S_, .i32⟩
  | 82 => ⟨S143, .i32⟩
  | 83 => ⟨S143, .i32⟩
  | 84 => ⟨S143, .i32⟩
  | 85 => ⟨S143x1, .i32⟩
  | 86 => ⟨S143, .i32⟩
  | 87 => ⟨S_, .i32⟩
  | 88 => ⟨S143, .i32⟩
  | 89 => ⟨S143, .i1⟩
  | 90 => ⟨S_, .i32⟩
  | 91 => ⟨S143, .i32⟩
  | 92 => ⟨S143, .i32⟩
  | 93 => ⟨S143, .i32⟩
  | 94 => ⟨S143x1, .i32⟩
  | 95 => ⟨S143, .i32⟩
  | 96 => ⟨S143, .i32⟩
  | 97 => ⟨S143, .i32⟩
  | 98 => ⟨S_, .i32⟩
  | 99 => ⟨S143, .i32⟩
  | 100 => ⟨S143, .i1⟩
  | 101 => ⟨S_, .i32⟩
  | 102 => ⟨S143, .i32⟩
  | 103 => ⟨S143, .i32⟩
  | 104 => ⟨S143, .i32⟩
  | 105 => ⟨S143x1, .i32⟩
  | 106 => ⟨S143, .i32⟩
  | 107 => ⟨S_, .i32⟩
  | 108 => ⟨S143, .i32⟩
  | 109 => ⟨S143, .i1⟩
  | 110 => ⟨S_, .i32⟩
  | 111 => ⟨S143, .i32⟩
  | 112 => ⟨S143, .i32⟩
  | 113 => ⟨S143, .i32⟩
  | 114 => ⟨S143x1, .i32⟩
  | 115 => ⟨S143, .i32⟩
  | 116 => ⟨S_, .i32⟩
  | 117 => ⟨S143, .i32⟩
  | 118 => ⟨S143, .i32⟩
  | 119 => ⟨S143, .i32⟩
  | 120 => ⟨S_, .i32⟩
  | 121 => ⟨S143, .i32⟩
  | 122 => ⟨S_, .i32⟩
  | 123 => ⟨S143, .i32⟩
  | 124 => ⟨S143, .i1⟩
  | 125 => ⟨S_, .i32⟩
  | 126 => ⟨S143, .i32⟩
  | 127 => ⟨S143, .i32⟩
  | _ => ⟨S65536x3072, .bf16⟩

abbrev hbmTy0_1 (i : Nat) : BufTy := match i % 128 with
  | 0 => ⟨S143, .i32⟩
  | 1 => ⟨S143x1, .i32⟩
  | 2 => ⟨S143, .i32⟩
  | 3 => ⟨S_, .i32⟩
  | 4 => ⟨S143, .i32⟩
  | 5 => ⟨S143, .i32⟩
  | 6 => ⟨S143, .i32⟩
  | 7 => ⟨S_, .i32⟩
  | 8 => ⟨S143, .i32⟩
  | 9 => ⟨S_, .i32⟩
  | 10 => ⟨S143, .i32⟩
  | 11 => ⟨S143, .i1⟩
  | 12 => ⟨S143, .i32⟩
  | 13 => ⟨S143, .i1⟩
  | 14 => ⟨S16x2048x1, .f32⟩
  | 15 => ⟨S65536x2048, .bf16⟩
  | _ => ⟨S65536x3072, .bf16⟩

abbrev hbmTy (i : Nat) : BufTy := match i / 128 with
  | 0 => hbmTy0_0 i
  | 1 => hbmTy0_1 i
  | _ => ⟨S65536x3072, .bf16⟩

abbrev bufTy : (tb : Table) → Fin (tcTables nBuf tb) → BufTy
  | .hbm, ⟨i, _⟩ => hbmTy i
  | .local _ .vmem, ⟨0, _⟩ => ⟨S512x3072, .bf16⟩
  | .local _ .vmem, ⟨1, _⟩ => ⟨S512x3072, .bf16⟩
  | .local _ .vmem, ⟨2, _⟩ => ⟨S1x2048x3072, .fp8e4m3⟩
  | .local _ .vmem, ⟨3, _⟩ => ⟨S1x2048x3072, .fp8e4m3⟩
  | .local _ .vmem, ⟨4, _⟩ => ⟨S1x2048x1, .f32⟩
  | .local _ .vmem, ⟨5, _⟩ => ⟨S1x2048x1, .f32⟩
  | .local _ .vmem, ⟨6, _⟩ => ⟨S512x2048, .bf16⟩
  | .local _ .vmem, ⟨7, _⟩ => ⟨S512x2048, .bf16⟩
  | .local _ .vmem, ⟨8, _⟩ => ⟨S2048x3072, .bf16⟩
  | .local _ .vmem, ⟨9, _⟩ => ⟨S512x3072, .bf16⟩
  | .local _ .smem, ⟨0, _⟩ => ⟨S143, .i32⟩
  | .local _ .smem, ⟨1, _⟩ => ⟨S143, .i32⟩
  | .local _ .smem, ⟨2, _⟩ => ⟨S143, .i32⟩
  | .local _ .smem, ⟨3, _⟩ => ⟨S143, .i32⟩
  | .local _ .smem, ⟨4, _⟩ => ⟨S143, .i32⟩
  | .local _ .smem, ⟨5, _⟩ => ⟨S143, .i32⟩
  | _, _ => ⟨S65536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_c : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_0 : Ref sig .tc := ⟨.hbm, 43, rfl⟩
abbrev main_call2_v12 : Ref sig .tc := ⟨.hbm, 44, rfl⟩
abbrev main_call2_v13 : Ref sig .tc := ⟨.hbm, 45, rfl⟩
abbrev main_v5 : Ref sig .tc := ⟨.hbm, 46, rfl⟩
abbrev main_c_2 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_c_5 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_c_6 : Ref sig .tc := ⟨.hbm, 74, rfl⟩
abbrev main_v25 : Ref sig .tc := ⟨.hbm, 75, rfl⟩
abbrev main_c_7 : Ref sig .tc := ⟨.hbm, 76, rfl⟩
abbrev main_v26 : Ref sig .tc := ⟨.hbm, 77, rfl⟩
abbrev main_c_8 : Ref sig .tc := ⟨.hbm, 78, rfl⟩
abbrev main_v28 : Ref sig .tc := ⟨.hbm, 79, rfl⟩
abbrev main_v29 : Ref sig .tc := ⟨.hbm, 80, rfl⟩
abbrev main_c_9 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_c_10 : Ref sig .tc := ⟨.hbm, 87, rfl⟩
abbrev main_v35 : Ref sig .tc := ⟨.hbm, 88, rfl⟩
abbrev main_v36 : Ref sig .tc := ⟨.hbm, 89, rfl⟩
abbrev main_c_11 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_c_12 : Ref sig .tc := ⟨.hbm, 98, rfl⟩
abbrev main_v44 : Ref sig .tc := ⟨.hbm, 99, rfl⟩
abbrev main_v45 : Ref sig .tc := ⟨.hbm, 100, rfl⟩
abbrev main_c_13 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_c_14 : Ref sig .tc := ⟨.hbm, 107, rfl⟩
abbrev main_v52 : Ref sig .tc := ⟨.hbm, 108, rfl⟩
abbrev main_v53 : Ref sig .tc := ⟨.hbm, 109, rfl⟩
abbrev main_c_15 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_c_16 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_c_17 : Ref sig .tc := ⟨.hbm, 120, rfl⟩
abbrev main_v62 : Ref sig .tc := ⟨.hbm, 121, rfl⟩
abbrev main_c_18 : Ref sig .tc := ⟨.hbm, 122, rfl⟩
abbrev main_v64 : Ref sig .tc := ⟨.hbm, 123, rfl⟩
abbrev main_v65 : Ref sig .tc := ⟨.hbm, 124, rfl⟩
abbrev main_c_19 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_c_20 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_c_21 : Ref sig .tc := ⟨.hbm, 135, rfl⟩
abbrev main_v74 : Ref sig .tc := ⟨.hbm, 136, rfl⟩
abbrev main_c_22 : Ref sig .tc := ⟨.hbm, 137, rfl⟩
abbrev main_v76 : Ref sig .tc := ⟨.hbm, 138, rfl⟩
abbrev main_v77 : Ref sig .tc := ⟨.hbm, 139, rfl⟩
abbrev main_v79 : Ref sig .tc := ⟨.hbm, 140, rfl⟩
abbrev main_v80 : Ref sig .tc := ⟨.hbm, 141, rfl⟩
abbrev main_v82 : Ref sig .tc := ⟨.hbm, 142, rfl⟩
abbrev main_v83 : Ref sig .tc := ⟨.hbm, 143, rfl⟩
abbrev main_v51 : Ref sig .tc := ⟨.smem, 0, rfl⟩
abbrev main_v27 : Ref sig .tc := ⟨.smem, 1, rfl⟩
abbrev main_v63 : Ref sig .tc := ⟨.smem, 2, rfl⟩
abbrev main_v75 : Ref sig .tc := ⟨.smem, 3, rfl⟩
abbrev main_v78 : Ref sig .tc := ⟨.smem, 4, rfl⟩
abbrev main_v81 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![143], ![false]⟩

abbrev pre0 : Pipeline.Prefetch sig := ⟨6, ![main_v51.idx, main_v27.idx, main_v63.idx, main_v75.idx, main_v78.idx, main_v81.idx], fun | 0 => main_v51.names | 1 => main_v27.names | 2 => main_v63.names | 3 => main_v75.names | 4 => main_v78.names | 5 => main_v81.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v1671 : Index := Scalar.indexCast arg0
  ![v1671.toNat]
def k0_cond2 (v1 : BitVec 32) : BitVec 1 :=
  let c1_i32 : BitVec 32 := 1#32
  let v2 : BitVec 1 := Scalar.cmpi .eq v1 c1_i32
  let v9 : BitVec 32 := Scalar.extui v2
  let c0_i32_1 : BitVec 32 := 0#32
  let v10 : BitVec 1 := Scalar.cmpi .ne v9 c0_i32_1
  v10

def cc0_transform_0 (k0_off1_inb : ∀ i : grid0.Coords, ∀ a, (k0_off1 i) a + S1.size a ≤ S143.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S143) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S143.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S143) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S143.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S143) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S143.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S143) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S65536x3072 : Shape := ⟨2, ![65536, 3072]⟩
abbrev S16 : Shape := ⟨1, ![16]⟩
abbrev S16x2048x3072 : Shape := ⟨3, ![16, 2048, 3072]⟩
abbrev S16x2048 : Shape := ⟨2, ![16, 2048]⟩
abbrev S65536x24x128 : Shape := ⟨3, ![65536, 24, 128]⟩
abbrev S_ : Shape := ⟨0, ![]⟩
abbrev S65536x24 : Shape := ⟨2, ![65536, 24]⟩
abbrev S65536x24x1 : Shape := ⟨3, ![65536, 24, 1]⟩
abbrev S16x2048x1 : Shape := ⟨3, ![16, 2048, 1]⟩
abbrev S65536 : Shape := ⟨1, ![65536]⟩
abbrev S65536x1 : Shape := ⟨2, ![65536, 1]⟩
abbrev S1x16 : Shape := ⟨2, ![1, 16]⟩
abbrev S65536x16 : Shape := ⟨2, ![65536, 16]⟩
abbrev S65536x16x2048 : Shape := ⟨3, ![65536, 16, 2048]⟩
abbrev S65536x16x1 : Shape := ⟨3, ![65536, 16, 1]⟩
abbrev S65536x2048 : Shape := ⟨2, ![65536, 2048]⟩

abbrev nBuf : Space → Nat
  | .hbm => 91
  | .vmem => 4
  | .smem => 0
  | _ => 0

abbrev bufTy : (tb : Table) → Fin (tcTables nBuf tb) → BufTy
  | .hbm, ⟨0, _⟩ => ⟨S65536x3072, .bf16⟩
  | .hbm, ⟨1, _⟩ => ⟨S16, .i32⟩
  | .hbm, ⟨2, _⟩ => ⟨S16x2048x3072, .fp8e4m3⟩
  | .hbm, ⟨3, _⟩ => ⟨S16x2048, .f32⟩
  | .hbm, ⟨4, _⟩ => ⟨S65536x24x128, .bf16⟩
  | .hbm, ⟨5, _⟩ => ⟨S65536x24x128, .f32⟩
  | .hbm, ⟨6, _⟩ => ⟨S65536x24x128, .f32⟩
  | .hbm, ⟨7, _⟩ => ⟨S_, .f32⟩
  | .hbm, ⟨8, _⟩ => ⟨S65536x24, .f32⟩
  | .hbm, ⟨9, _⟩ => ⟨S65536x24x1, .f32⟩
  | .hbm, ⟨10, _⟩ => ⟨S_, .f32⟩
  | .hbm, ⟨11, _⟩ => ⟨S65536x24x1, .f32⟩
  | .hbm, ⟨12, _⟩ => ⟨S65536x24x1, .f32⟩
  | .hbm, ⟨13, _⟩ => ⟨S65536x24x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S65536x24x1, .f32⟩
  | .hbm, ⟨18, _⟩ => ⟨S65536x24x1, .f32⟩
  | .hbm, ⟨19, _⟩ => ⟨S65536x24x1, .f32⟩
  | .hbm, ⟨20, _⟩ => ⟨S_, .f32⟩
  | .hbm, ⟨21, _⟩ => ⟨S65536x24x1, .f32⟩
  | .hbm, ⟨22, _⟩ => ⟨S65536x24x1, .f32⟩
  | .hbm, ⟨23, _⟩ => ⟨S_, .f32⟩
  | .hbm, ⟨24, _⟩ => ⟨S65536x24x1, .f32⟩
  | .hbm, ⟨25, _⟩ => ⟨S65536x24x1, .f32⟩
  | .hbm, ⟨26, _⟩ => ⟨S_, .f32⟩
  | .hbm, ⟨27, _⟩ => ⟨S65536x24x1, .f32⟩
  | .hbm, ⟨28, _⟩ => ⟨S65536x24x1, .i1⟩
  | .hbm, ⟨29, _⟩ => ⟨S_, .f32⟩
  | .hbm, ⟨30, _⟩ => ⟨S65536x24x1, .f32⟩
  | .hbm, ⟨31, _⟩ => ⟨S65536x24x1, .i1⟩
  | .hbm, ⟨32, _⟩ => ⟨S65536x24x1, .i1⟩
  | .hbm, ⟨33, _⟩ => ⟨S_, .f32⟩
  | .hbm, ⟨34, _⟩ => ⟨S65536x24x1, .f32⟩
  | .hbm, ⟨35, _⟩ => ⟨S65536x24x1, .f32⟩
  | .hbm, ⟨36, _⟩ => ⟨S_, .f32⟩
  | .hbm, ⟨37, _⟩ => ⟨S_, .f32⟩
  | .hbm, ⟨38, _⟩ => ⟨S65536x24x1, .f32⟩
  | .hbm, ⟨39, _⟩ => ⟨S65536x24x1, .f32⟩
  | .hbm, ⟨40, _⟩ => ⟨S_, .f32⟩
  | .hbm, ⟨41, _⟩ => ⟨S65536x24x1, .f32⟩
  | .hbm, ⟨42, _⟩ => ⟨S65536x24x1, .f32⟩
  | .hbm, ⟨43, _⟩ => ⟨S65536x24x1, .bf16⟩
  | .hbm, ⟨44, _⟩ => ⟨S65536x24x128, .bf16⟩
  | .hbm, ⟨45, _⟩ => ⟨S65536x24x128, .bf16⟩
  | .hbm, ⟨46, _⟩ => ⟨S_, .f32⟩
  | .hbm, ⟨47, _⟩ => ⟨S_, .f32⟩
  | .hbm, ⟨48, _⟩ => ⟨S_, .bf16⟩
  | .hbm, ⟨49, _⟩ => ⟨S65536x24x128, .bf16⟩
  | .hbm, ⟨50, _⟩ => ⟨S65536x24x128, .bf16⟩
  | .hbm, ⟨51, _⟩ => ⟨S_, .bf16⟩
  | .hbm, ⟨52, _⟩ => ⟨S65536x24x128, .bf16⟩
  | .hbm, ⟨53, _⟩ => ⟨S65536x24x128, .bf16⟩
  | .hbm, ⟨54, _⟩ => ⟨S65536x3072, .bf16⟩
  | .hbm, ⟨55, _⟩ => ⟨S65536x3072, .bf16⟩
  | .hbm, ⟨56, _⟩ => ⟨S16x2048x3072, .bf16⟩
  | .hbm, ⟨57, _⟩ => ⟨S65536x24x128, .bf16⟩
  | .hbm, ⟨58, _⟩ => ⟨S65536x24x1, .bf16⟩
  | .hbm, ⟨59, _⟩ => ⟨S65536x24x128, .bf16⟩
  | .hbm, ⟨60, _⟩ => ⟨S65536x24x128, .bf16⟩
  | .hbm, ⟨61, _⟩ => ⟨S65536x3072, .bf16⟩
  | .hbm, ⟨62, _⟩ => ⟨S16x2048, .bf16⟩
  | .hbm, ⟨63, _⟩ => ⟨S16x2048x1, .bf16⟩
  | .hbm, ⟨64, _⟩ => ⟨S16x2048x3072, .bf16⟩
  | .hbm, ⟨65, _⟩ => ⟨S16x2048x3072, .bf16⟩
  | .hbm, ⟨66, _⟩ => ⟨S_, .i32⟩
  | .hbm, ⟨67, _⟩ => ⟨S_, .i32⟩
  | .hbm, ⟨68, _⟩ => ⟨S16, .i32⟩
  | .hbm, ⟨69, _⟩ => ⟨S16, .i32⟩
  | .hbm, ⟨70, _⟩ => ⟨S65536, .i32⟩
  | .hbm, ⟨71, _⟩ => ⟨S65536x1, .i32⟩
  | .hbm, ⟨72, _⟩ => ⟨S1x16, .i32⟩
  | .hbm, ⟨73, _⟩ => ⟨S65536x16, .i32⟩
  | .hbm, ⟨74, _⟩ => ⟨S65536x16, .i32⟩
  | .hbm, ⟨75, _⟩ => ⟨S65536x16, .i1⟩
  | .hbm, ⟨76, _⟩ => ⟨S1x16, .i32⟩
  | .hbm, ⟨77, _⟩ => ⟨S65536x16, .i32⟩
  | .hbm, ⟨78, _⟩ => ⟨S65536x16, .i32⟩
  | .hbm, ⟨79, _⟩ => ⟨S65536x16, .i1⟩
  | .hbm, ⟨80, _⟩ => ⟨S65536x16, .i1⟩
  | .hbm, ⟨81, _⟩ => ⟨S65536x16x2048, .f32⟩
  | .hbm, ⟨82, _⟩ => ⟨S65536x16x1, .i1⟩
  | .hbm, ⟨83, _⟩ => ⟨S_, .f32⟩
  | .hbm, ⟨84, _⟩ => ⟨S_, .f32⟩
  | .hbm, ⟨85, _⟩ => ⟨S65536x16x2048, .i1⟩
  | .hbm, ⟨86, _⟩ => ⟨S65536x16x2048, .f32⟩
  | .hbm, ⟨87, _⟩ => ⟨S65536x16x2048, .f32⟩
  | .hbm, ⟨88, _⟩ => ⟨S_, .f32⟩
  | .hbm, ⟨89, _⟩ => ⟨S65536x2048, .f32⟩
  | .hbm, ⟨90, _⟩ => ⟨S65536x2048, .bf16⟩
  | .local _ .vmem, ⟨0, _⟩ => ⟨S65536x3072, .bf16⟩
  | .local _ .vmem, ⟨1, _⟩ => ⟨S16x2048x3072, .fp8e4m3⟩
  | .local _ .vmem, ⟨2, _⟩ => ⟨S65536x3072, .bf16⟩
  | .local _ .vmem, ⟨3, _⟩ => ⟨S16x2048x3072, .bf16⟩
  | _, _ => ⟨S65536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_cst_10 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call2_call0_c : Ref sig .tc := ⟨.hbm, 66, rfl⟩
abbrev main_call2_call0_v0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S65536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KB.Base.lean ====
/- What the runs of the kernel's body are stated over: the buffers' contents when the region is entered, the six
   prefetched tables read off them, the staging and scratch memrefs, and the region's invariant as a chain of
   points-tos. Hand-written, untrusted. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The stretches of host operations before the region, in order. -/
abbrev opss : List (List (HloOp τ sig (Elt F))) :=
  [hostOps0, hostOps0_1, hostOps0_2, hostOps0_3, hostOps0_4, hostOps0_5, hostOps0_6, hostOps0_7, hostOps0_8]

/-- Core `c`'s buffers when the region is entered. -/
abbrev V (c : Dev nD) (b : Ref sig .tc) : Buf (Elt F) ((c : Thread nD τ).loc b) :=
  StableHlo.after (opss (F := F)).flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub⟩

set_option maxHeartbeats 4000000 in
theorem opss_fresh : (opss (F := F)).Forall fun ops => ops.Forall fun op => op.fresh = ∅ := by
  simp only [List.Forall]; repeat' constructor

theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh main_chain

set_option maxHeartbeats 4000000 in
/-- No host operation before the region writes an argument: the region finds it as launched. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [opss, hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases hb with rfl | rfl | rfl | rfl <;>
    · repeat' apply And.intro
      all_goals exact StableHlo.devRef_ne_of_ne (by decide)))

/-! ## The prefetched tables -/

/-- The tables' contents when the region is entered. -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl
/-- The pipeline's side condition at the tables' contents. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0 : Memref sig .tc .smem S143 .i32 := Memref.whole main_v51
abbrev htbM0 : tbM0.IsWhole := Memref.isWhole_whole _
abbrev tbM1 : Memref sig .tc .smem S143 .i32 := Memref.whole main_v27
abbrev htbM1 : tbM1.IsWhole := Memref.isWhole_whole _
abbrev tbM2 : Memref sig .tc .smem S143 .i32 := Memref.whole main_v63
abbrev htbM2 : tbM2.IsWhole := Memref.isWhole_whole _
abbrev tbM3 : Memref sig .tc .smem S143 .i32 := Memref.whole main_v75
abbrev htbM3 : tbM3.IsWhole := Memref.isWhole_whole _
abbrev tbM4 : Memref sig .tc .smem S143 .i32 := Memref.whole main_v78
abbrev htbM4 : tbM4.IsWhole := Memref.isWhole_whole _
abbrev tbM5 : Memref sig .tc .smem S143 .i32 := Memref.whole main_v81
abbrev htbM5 : tbM5.IsWhole := Memref.isWhole_whole _

/-- A table's buffer on core `c` held at half the full share at `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3) ∗ tbPt c tbM4 (tbl m 4) ∗ tbPt c tbM5 (tbl m 5)) := by
  unfold Pipeline.ΦT Pipeline.prefHeld
  exact bigSep_univ_eq_bigSepL [(0 : Fin 6), (1 : Fin 6), (2 : Fin 6), (3 : Fin 6), (4 : Fin 6), (5 : Fin 6)] (by decide) (by decide) _

/-! ## The memrefs the body is handed -/

abbrev ms0 (hO : Ok m) (t : Fin (cfgM m hO).N) : Memref sig .tc .vmem S512x3072 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x2048x3072 .fp8e4m3 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x2048x1 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S512x2048 .bf16 := spec0_3.stage ((cfgM m hO).slots t 3)
abbrev hs3 (hO : Ok m) (t : Fin (cfgM m hO).N) : (ms3 m hO t).IsWhole := hstage0_3 (((cfgM m hO).slots t 3).cast nbuf0_3)
/-- The two scratch buffers: the dequantised weights and the dequantised rows. -/
abbrev scW : Memref sig .tc .vmem S2048x3072 .bf16 := Memref.whole cc0_scratch0
abbrev scD : Memref sig .tc .vmem S512x3072 .bf16 := Memref.whole cc0_scratch1

theorem PhiA_eq (c : Dev nD) :
    (Pipeline.ΦA spec0 c : sProp 𝕄)
      = iprop(iprop((∃ d, owns (c : Thread nD τ) scW fullShare d) ∗ (∃ d, owns (c : Thread nD τ) scD fullShare d)) ∗ (∃ r, prngReg c r)) := by
  unfold Pipeline.ΦA; rw [scopedRest0_eq]; simp only [scW, scD, owns_whole]; try rfl

/-- The kernel body at point `t`, on what the pipeline calls it with. -/
abbrev bodyAt (hO : Ok m) (t : Fin (cfgM m hO).N) : Prog (TpuEff nD τ sig (Elt F) Λ₀ .tc) PUnit :=
  cc0_grouped_dgrad (grid0.coords t) tbM0 htbM0 tbM1 htbM1 tbM2 htbM2 tbM3 htbM3 tbM4 htbM4 tbM5 htbM5
    (ms0 m hO t) (hs0 m hO t) (ms1 m hO t) (hs1 m hO t) (ms2 m hO t) (hs2 m hO t) (ms3 m hO t) (hs3 m hO t)
    scW (Memref.isWhole_whole _) scD (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.Kernel.Hand

end
-- ==== Proof.Words.lean ====
/- The six visit tables as the host computes them from the group sizes: the printed operations composed, as functions
   of the sizes' words. Hand-written, untrusted. -/
module

public import proofs.«01_k».proof.Proof.Gen.KernelIdeal
public import Idealize.ShloMosaic.Lib.Routing.OpsSet
public import Idealize.ShloMosaic.Lib.Routing.OpsSearch
public import Idealize.ShloMosaic.Lib.Routing.OpsPair

@[expose] public section

noncomputable section

namespace Cert.Words

open Cert.KernelIdeal Cert.KernelIdeal.Gen
open Idealize.ShloMosaic Idealize.ShloMosaic.Routing Idealize.ShloMosaic.ValueIdx

/-- A running sum over the sixteen groups. -/
def csum (x : IVec S16 32) : IVec S16 32 :=
  Host.reduceWindow IntOp.addi ![16] ![1] ![15] ![0] x (broadcastInDim S_ ![] bcast_S_S_ (constantI S_ 32 0#32)) reduceWindows_S16_S16_w16s1p15_0 h_S_
/-- A word repeated over the groups. -/
def rep16 (b : BitVec 32) : IVec S16 32 := broadcastInDim S16 ![] bcast_S_S16 (constantI S_ 32 b)
/-- A word repeated over the visits. -/
def rep143 (b : BitVec 32) : IVec S143 32 := broadcastInDim S143 ![] bcast_S_S143 (constantI S_ 32 b)
/-- `floor_divide` by 512, as it prints. -/
def fdiv (x : IVec S16 32) : IVec S16 32 :=
  select (andi (cmpi .ne (signi x) (broadcastInDim S16 ![] bcast_S_S16 (signi (constantI S_ 32 512#32)))) (cmpi .ne (Host.remsi x (rep16 512#32)) (rep16 0#32)))
    (subi (Host.divsi x (rep16 512#32)) (rep16 1#32)) (Host.divsi x (rep16 512#32))

def hEnds (x : IVec S16 32) : IVec S16 32 := csum x
def hStarts (x : IVec S16 32) : IVec S16 32 := subi (hEnds x) x
def hFirstTile (x : IVec S16 32) : IVec S16 32 := fdiv (hStarts x)
def hLastTile (x : IVec S16 32) : IVec S16 32 := fdiv (subi (hEnds x) (rep16 1#32))
def hCount (x : IVec S16 32) : IVec S16 32 :=
  select (cmpi .sgt x (rep16 0#32)) (addi (subi (hLastTile x) (hFirstTile x)) (rep16 1#32)) (rep16 0#32)
def hVe (x : IVec S16 32) : IVec S16 32 := csum (hCount x)
def hTotal (x : IVec S16 32) : IVec S_ 32 := shapeCast S_ (extractStridedSlice S1 ![15] (hVe x) slices_S16_S1_15) shapeCasts_S1_S_
def hVc (x : IVec S16 32) : IVec S143 32 :=
  minsi (iotaInDim S143 32 0) (broadcastInDim S143 ![] bcast_S_S143 (subi (hTotal x) (constantI S_ 32 1#32)))
/-- The groups whose visits are all over before this one: counted. -/
def hCnt (x : IVec S16 32) : IVec S143 32 :=
  Host.reduce IntOp.addi (extui 32 (cmpi .sle (broadcastInDim S143x16 ![0, 1] bcast_S1x16_S143x16_0_1 (broadcastInDim S1x16 ![1] bcast_S16_S1x16_1 (hVe x)))
    (broadcastInDim S143x16 ![0, 1] bcast_S143x1_S143x16_0_1 (broadcastInDim S143x1 ![0] bcast_S143_S143x1_0 (hVc x)))) natLt_1_32) (constantI S_ 32 0#32) reducesTo_S143x16_S143_d1 h_S_
def hG (x : IVec S16 32) : IVec S143 32 := minsi (hCnt x) (rep143 15#32)
/-- `table[g]`, as it prints: a negative index is wrapped first. -/
def takeG (x : IVec S16 32) (tb : IVec S16 32) : IVec S143 32 :=
  Host.gather gather_S16_S143x1_S143_n_0_n_n_0_1_1 tb (broadcastInDim S143x1 ![0] bcast_S143_S143x1_0
    (select (cmpi .slt (hG x) (rep143 0#32)) (addi (hG x) (rep143 16#32)) (hG x)))
def hWithin (x : IVec S16 32) : IVec S143 32 := subi (hVc x) (subi (takeG x (hVe x)) (takeG x (hCount x)))
def hTile (x : IVec S16 32) : IVec S143 32 := addi (takeG x (hFirstTile x)) (hWithin x)
def hLo (x : IVec S16 32) : IVec S143 32 := maxsi (subi (takeG x (hStarts x)) (muli (hTile x) (rep143 512#32))) (rep143 0#32)
def hHi (x : IVec S16 32) : IVec S143 32 := minsi (subi (takeG x (hEnds x)) (muli (hTile x) (rep143 512#32))) (rep143 512#32)
def hFirst (x : IVec S16 32) : IVec S143 32 := extui 32 (cmpi .eq (hWithin x) (rep143 0#32)) natLt_1_32
def hLive (x : IVec S16 32) : IVec S143 32 := extui 32 (cmpi .slt (iotaInDim S143 32 0) (broadcastInDim S143 ![] bcast_S_S143 (hTotal x))) natLt_1_32

end Cert.Words

end
-- ==== Proof.KB.Reads.lean ====
/- What the prefetched tables hold when the region is entered, read off the host operations. Hand-written, untrusted. -/
module

public import proofs.«01_k».proof.Proof.KB.Base
public import proofs.«01_k».proof.Proof.Words
public import Idealize.ShloMosaic.Lib.StableHlo.RunRead
public import proofs.«01_k».proof.Proof.Gen.KernelIdeal

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The group sizes as launched. -/
abbrev sz (c : Dev nD) : IVec Cert.KernelIdeal.S16 32 := m ((c : Thread nD τ).loc main_arg1)

set_option maxHeartbeats 1000000 in
theorem V_v51 (c : Dev nD) : V m c main_v51 = (Cert.Words.hTile (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

set_option maxHeartbeats 1000000 in
theorem V_v27 (c : Dev nD) : V m c main_v27 = (Cert.Words.hG (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

set_option maxHeartbeats 1000000 in
theorem V_v63 (c : Dev nD) : V m c main_v63 = (Cert.Words.hLo (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

set_option maxHeartbeats 1000000 in
theorem V_v75 (c : Dev nD) : V m c main_v75 = (Cert.Words.hHi (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

set_option maxHeartbeats 1000000 in
theorem V_v78 (c : Dev nD) : V m c main_v78 = (Cert.Words.hFirst (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

set_option maxHeartbeats 1000000 in
theorem V_v81 (c : Dev nD) : V m c main_v81 = (Cert.Words.hLive (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

/-- The scales' window array: the scales with a unit axis added. -/
theorem V_v82 (c : Dev nD) : V m c main_v82 = broadcastInDim S16x2048x1 ![0, 1] bcast_S16x2048_S16x2048x1_0_1 (m ((c : Thread nD τ).loc main_arg3)) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp

end Cert.Kernel.Hand

end
-- ==== Proof.Tables.lean ====
/- The visit schedule as arithmetic over the naturals. Sixteen groups of consecutive rows, of sizes `s g` adding up to
   65536, are cut at multiples of 512; each visit is one piece of one group inside one tile of 512 rows. What is proved:
   there are at most 143 visits, consecutive visits are adjacent ranges of rows, and a tile is finished before the next
   one starts. Hand-written, untrusted. -/
module

public import Idealize.ShloMosaic.Lib.Routing.OpsSet

@[expose] public section

namespace Cert.Tables

/-- The sum of the first `n` values. -/
def P (s : ℕ → ℕ) : ℕ → ℕ
  | 0 => 0
  | n + 1 => P s n + s n

theorem sum_range_eq (s : ℕ → ℕ) (n : ℕ) : ((List.range n).map s).sum = P s n := by
  induction n with
  | zero => rfl
  | succ n ih => rw [List.range_succ, List.map_append, List.sum_append, ih]; simp [P]

theorem P_mono (s : ℕ → ℕ) {a b : ℕ} (h : a ≤ b) : P s a ≤ P s b := by
  induction h with
  | refl => exact le_rfl
  | step _ ih => exact ih.trans (Nat.le_add_right _ _)

/-- How many tiles group `g` meets. -/
def cnt (s : ℕ → ℕ) (g : ℕ) : ℕ := if 0 < s g then (P s (g + 1) - 1) / 512 - P s g / 512 + 1 else 0

/-- The visits of the groups before `n`. -/
abbrev C (s : ℕ → ℕ) (n : ℕ) : ℕ := P (cnt s) n

theorem C_mono (s : ℕ → ℕ) {a b : ℕ} (h : a ≤ b) : C s a ≤ C s b := P_mono _ h

theorem C_succ (s : ℕ → ℕ) (g : ℕ) : C s (g + 1) = C s g + cnt s g := rfl
theorem P_succ (s : ℕ → ℕ) (g : ℕ) : P s (g + 1) = P s g + s g := rfl

/-- Groups without visits have no rows. -/
theorem P_eq_of_C_eq (s : ℕ → ℕ) {a b : ℕ} (h : a ≤ b) : C s a = C s b → P s a = P s b := by
  induction h with
  | refl => exact fun _ => rfl
  | @step k hk ih =>
    intro e
    have h1 := C_mono s hk
    have h2 := C_succ s k
    have h3 : cnt s k = 0 := by show cnt s k = 0; have : C s (k + 1) = C s k + cnt s k := h2; simp only [Nat.succ_eq_add_one] at e; omega
    have h4 : s k = 0 := by unfold cnt at h3; split at h3 <;> omega
    have h5 := ih (by simp only [Nat.succ_eq_add_one] at e; omega)
    have h6 := P_succ s k
    simp only [Nat.succ_eq_add_one]; omega

/-- There are at most `ceil (rows / 512) + groups - 1` visits. -/
theorem C_bound (s : ℕ → ℕ) (n : ℕ) : C s (n + 1) ≤ (P s (n + 1) + 511) / 512 + n := by
  induction n with
  | zero =>
    show 0 + cnt s 0 ≤ (0 + s 0 + 511) / 512 + 0
    have e : P s (0 + 1) = s 0 := Nat.zero_add _
    have e0 : P s 0 = 0 := rfl
    unfold cnt; rw [e, e0]; split <;> omega
  | succ n ih =>
    have h1 := C_succ s (n + 1)
    have h2 := P_succ s (n + 1)
    rw [h1]; unfold cnt; split <;> omega

/-- The group of visit `v`: how many groups are over by then. -/
def grp (s : ℕ → ℕ) (v : ℕ) : ℕ := Nat.count (fun j => C s (j + 1) ≤ v) 16

theorem count_lt (g n : ℕ) (p : ℕ → Prop) [DecidablePred p] (hg : g ≤ n) (h1 : ∀ j < g, p j) (h2 : ∀ j, g ≤ j → ¬ p j) : Nat.count p n = g := by
  obtain ⟨d, rfl⟩ := Nat.exists_eq_add_of_le hg
  rw [Nat.count_add]
  have e1 : Nat.count p g = g := by rw [Nat.count_iff_forall]; exact fun {n'} hn => h1 _ hn
  have e2 : Nat.count (fun k => p (g + k)) d = 0 := by
    rw [Nat.count_iff_forall_not]; exact fun {n'} _ => h2 _ (Nat.le_add_right _ _)
  omega

theorem grp_spec (s : ℕ → ℕ) {v : ℕ} (hv : v < C s 16) : grp s v < 16 ∧ C s (grp s v) ≤ v ∧ v < C s (grp s v + 1) := by
  have hex : ∃ g, v < C s (g + 1) := ⟨15, hv⟩
  classical
  set g := Nat.find hex with hg
  have h1 : v < C s (g + 1) := Nat.find_spec hex
  have h2 : ∀ j < g, ¬ v < C s (j + 1) := fun j hj => Nat.find_min hex hj
  have h3 : g ≤ 15 := Nat.find_min' hex hv
  have h4 : C s g ≤ v := by
    rcases Nat.eq_zero_or_pos g with h | h
    · rw [h]; exact Nat.zero_le _
    · have := h2 (g - 1) (by omega); rw [Nat.sub_add_cancel h] at this; omega
  have e : grp s v = g := by
    unfold grp
    exact count_lt g 16 _ (by omega) (fun j hj => Nat.le_of_not_lt (h2 j hj)) (fun j hj => by
      have := C_mono s (show g + 1 ≤ j + 1 by omega); omega)
  rw [e]; exact ⟨by omega, h4, h1⟩

/-- The group a visit names is the one whose visits it is among. -/
theorem grp_unique (s : ℕ → ℕ) {v g : ℕ} (hg : g < 16) (h1 : C s g ≤ v) (h2 : v < C s (g + 1)) : grp s v = g := by
  unfold grp
  exact count_lt g 16 _ (by omega) (fun j hj => (C_mono s (show j + 1 ≤ g by omega)).trans h1) (fun j hj => by
    have := C_mono s (show g + 1 ≤ j + 1 by omega); omega)

/-- The tile, the first row inside it and one past the last row inside it of visit `v`. -/
def tile (s : ℕ → ℕ) (v : ℕ) : ℕ := P s (grp s v) / 512 + (v - C s (grp s v))
def lo (s : ℕ → ℕ) (v : ℕ) : ℕ := P s (grp s v) - 512 * tile s v
def hi (s : ℕ → ℕ) (v : ℕ) : ℕ := min (P s (grp s v + 1) - 512 * tile s v) 512

section Facts
variable (s : ℕ → ℕ) (hs : P s 16 = 65536)
include hs

theorem total_pos : 0 < C s 16 := by
  rcases Nat.eq_zero_or_pos (C s 16) with h | h
  · have h0 : P s 0 = P s 16 := P_eq_of_C_eq s (Nat.zero_le 16) (by rw [h]; rfl)
    rw [hs] at h0; simp [P] at h0
  · exact h

theorem total_le : C s 16 ≤ 143 := by
  have := C_bound s 15
  rw [show (15 + 1) = 16 from rfl, hs] at this; omega

omit hs in
theorem cnt_pos {g v : ℕ} (h1 : C s g ≤ v) (h2 : v < C s (g + 1)) :
    0 < s g ∧ cnt s g = (P s (g + 1) - 1) / 512 - P s g / 512 + 1 := by
  have h := C_succ s g
  unfold cnt at h ⊢
  split at h
  · next hp => exact ⟨hp, if_pos hp⟩
  · omega

/-- What one visit is. -/
theorem visit {v : ℕ} (hv : v < C s 16) :
    grp s v < 16 ∧ tile s v < 128 ∧ lo s v < hi s v ∧ hi s v ≤ 512 ∧ 512 * tile s v < P s (grp s v + 1)
      ∧ P s (grp s v) ≤ 512 * tile s v + lo s v ∧ 512 * tile s v + hi s v ≤ P s (grp s v + 1) := by
  obtain ⟨hg, h1, h2⟩ := grp_spec s hv
  obtain ⟨h3, h4⟩ := cnt_pos s h1 h2
  have h5 := C_succ s (grp s v)
  have h6 := P_succ s (grp s v)
  have h7 : P s (grp s v + 1) ≤ 65536 := hs ▸ P_mono s (by omega)
  unfold lo hi
  have ht : tile s v = P s (grp s v) / 512 + (v - C s (grp s v)) := rfl
  refine ⟨hg, ?_, ?_, ?_, ?_, ?_, ?_⟩ <;> omega

/-- The next visit starts at the row where this one ends. -/
theorem next {v : ℕ} (hv : v + 1 < C s 16) :
    (tile s (v + 1) = tile s v ∧ lo s (v + 1) = hi s v ∨ tile s (v + 1) = tile s v + 1 ∧ hi s v = 512 ∧ lo s (v + 1) = 0)
      ∧ (v + 1 ≠ C s (grp s (v + 1)) → grp s (v + 1) = grp s v) := by
  obtain ⟨hg, h1, h2⟩ := grp_spec s (show v < C s 16 by omega)
  obtain ⟨h3, h4⟩ := cnt_pos s h1 h2
  have h5 := C_succ s (grp s v)
  have h6 := P_succ s (grp s v)
  have ht : tile s v = P s (grp s v) / 512 + (v - C s (grp s v)) := rfl
  have ht' : tile s (v + 1) = P s (grp s (v + 1)) / 512 + (v + 1 - C s (grp s (v + 1))) := rfl
  rcases Nat.lt_or_ge (v + 1) (C s (grp s v + 1)) with hlt | hge
  · have e : grp s (v + 1) = grp s v := grp_unique s hg (by omega) hlt
    refine ⟨Or.inr ?_, fun _ => e⟩
    rw [e] at ht'
    unfold hi lo; rw [e]
    refine ⟨?_, ?_, ?_⟩ <;> omega
  · obtain ⟨hg', h1', h2'⟩ := grp_spec s hv
    have hle : grp s v + 1 ≤ grp s (v + 1) := by
      by_contra hcon
      have := C_mono s (show grp s (v + 1) + 1 ≤ grp s v + 1 by omega)
      omega
    have hC := C_mono s hle
    have hCe : C s (grp s v + 1) = C s (grp s (v + 1)) := by omega
    have hP := P_eq_of_C_eq s hle hCe
    refine ⟨?_, fun h => absurd (by omega) h⟩
    unfold hi lo
    rw [ht', ht, ← hP, ← hCe]
    omega

/-- The first visit starts at the first row, and it is its group's first. -/
theorem first_visit : tile s 0 = 0 ∧ lo s 0 = 0 ∧ C s (grp s 0) = 0 := by
  obtain ⟨hg, h1, h2⟩ := grp_spec s (total_pos s hs)
  have hP : P s 0 = P s (grp s 0) := P_eq_of_C_eq s (Nat.zero_le _) (by show 0 = _; omega)
  have h0 : P s 0 = 0 := rfl
  have ht : tile s 0 = P s (grp s 0) / 512 + (0 - C s (grp s 0)) := rfl
  unfold lo
  refine ⟨?_, ?_, ?_⟩ <;> omega

/-- The last visit ends with the last tile. -/
theorem last_visit : tile s (C s 16 - 1) = 127 ∧ hi s (C s 16 - 1) = 512 := by
  have hp := total_pos s hs
  have hv : C s 16 - 1 < C s 16 := by omega
  obtain ⟨hg, h1, h2⟩ := grp_spec s hv
  obtain ⟨h3, h4⟩ := cnt_pos s h1 h2
  have h5 := C_succ s (grp s (C s 16 - 1))
  have h6 := P_succ s (grp s (C s 16 - 1))
  have hm := C_mono s (show grp s (C s 16 - 1) + 1 ≤ 16 by omega)
  have hP := P_eq_of_C_eq s (show grp s (C s 16 - 1) + 1 ≤ 16 by omega) (by omega)
  rw [hs] at hP
  have ht : tile s (C s 16 - 1) = P s (grp s (C s 16 - 1)) / 512 + (C s 16 - 1 - C s (grp s (C s 16 - 1))) := rfl
  unfold hi
  refine ⟨?_, ?_⟩ <;> omega

end Facts

/-! ## At a grid point: the points past the last visit repeat it -/

abbrev vc (s : ℕ → ℕ) (t : ℕ) : ℕ := min t (C s 16 - 1)

section Points
variable (s : ℕ → ℕ) (hs : P s 16 = 65536)
include hs

theorem vc_lt (t : ℕ) : vc s t < C s 16 := by have := total_pos s hs; unfold vc; omega

/-- A point that does not start a group's visits has the group of the point before it. -/
theorem pt_first {t : ℕ} (h : vc s (t + 1) ≠ C s (grp s (vc s (t + 1)))) : grp s (vc s (t + 1)) = grp s (vc s t) := by
  have hp := total_pos s hs
  rcases Nat.lt_or_ge (t + 1) (C s 16) with hl | hl
  · rw [show vc s (t + 1) = t + 1 by unfold vc; omega] at h ⊢
    rw [show vc s t = t by unfold vc; omega]
    exact (next s hs hl).2 h
  · rw [show vc s (t + 1) = vc s t by unfold vc; omega]

/-- From a point to the next: the same visit again, or the adjacent rows. -/
theorem pt_next (t : ℕ) :
    (t + 1 < C s 16 ∧ (tile s (vc s (t + 1)) = tile s (vc s t) ∧ lo s (vc s (t + 1)) = hi s (vc s t)
        ∨ tile s (vc s (t + 1)) = tile s (vc s t) + 1 ∧ hi s (vc s t) = 512 ∧ lo s (vc s (t + 1)) = 0))
      ∨ (¬ t + 1 < C s 16 ∧ tile s (vc s (t + 1)) = tile s (vc s t) ∧ hi s (vc s (t + 1)) = hi s (vc s t)
          ∧ tile s (vc s t) = 127 ∧ hi s (vc s t) = 512) := by
  have hp := total_pos s hs
  rcases Nat.lt_or_ge (t + 1) (C s 16) with hl | hl
  · refine Or.inl ⟨hl, ?_⟩
    rw [show vc s (t + 1) = t + 1 by unfold vc; omega, show vc s t = t by unfold vc; omega]
    exact (next s hs hl).1
  · refine Or.inr ⟨by omega, ?_⟩
    rw [show vc s (t + 1) = C s 16 - 1 by unfold vc; omega, show vc s t = C s 16 - 1 by unfold vc; omega]
    exact ⟨rfl, rfl, last_visit s hs⟩

theorem pt_zero : tile s (vc s 0) = 0 ∧ lo s (vc s 0) = 0 ∧ vc s 0 = C s (grp s (vc s 0)) := by
  have hp := total_pos s hs
  rw [show vc s 0 = 0 by unfold vc; omega]
  obtain ⟨h1, h2, h3⟩ := first_visit s hs
  exact ⟨h1, h2, h3.symm⟩

theorem pt_last : tile s (vc s 142) = 127 ∧ hi s (vc s 142) = 512 := by
  have hp := total_pos s hs
  have hl := total_le s hs
  rw [show vc s 142 = C s 16 - 1 by unfold vc; omega]
  exact last_visit s hs

end Points

end Cert.Tables

end
-- ==== Proof.WordVals.lean ====
/- What the six visit tables hold: the words of the schedule's naturals. The group sizes' words are read as naturals;
   when they add up to 65536 no operation of the host's computation wraps, so each table's entry is the word of the
   natural the schedule (Tables.lean) names. Hand-written, untrusted. -/
module

public import proofs.«01_k».proof.Proof.Words
public import proofs.«01_k».proof.Proof.Tables

@[expose] public section

noncomputable section

namespace Cert.Words

open Cert.KernelIdeal Cert.KernelIdeal.Gen Cert.Tables
open Idealize.ShloMosaic Idealize.ShloMosaic.Routing Idealize.ShloMosaic.ValueIdx Idealize.ShloMosaic.WordCmp

/-! ## Signed minimum and maximum of small words -/

theorem minsi_nat {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left (Nat.le_of_lt h)]
  · rw [if_neg (by simpa using h), Nat.min_eq_right (by omega)]

theorem maxsi_sub {a b : ℕ} (ha : a < 2 ^ 30) (hb : b < 2 ^ 30) :
    IntOp.maxsi (BitVec.ofNat 32 a - BitVec.ofNat 32 b) 0#32 = BitVec.ofNat 32 (a - b) := by
  unfold IntOp.maxsi
  rcases Nat.lt_or_ge b a with h | h
  · rw [ofNat32_sub h.le, show (0#32 : BitVec 32) = BitVec.ofNat 32 0 from rfl, slt_ofNat32 (by decide) (by omega), if_pos (by simp; omega)]
  · rcases Nat.eq_or_lt_of_le h with rfl | h
    · simp
    · have e : BitVec.ofNat 32 a - BitVec.ofNat 32 b = -BitVec.ofNat 32 (b - a) := by
        rw [← ofNat32_sub h.le, BitVec.neg_sub, BitVec.add_comm, BitVec.sub_eq_add_neg]
      rw [show a - b = 0 by omega, e]
      have hs : BitVec.slt 0#32 (-BitVec.ofNat 32 (b - a)) = false := by
        unfold BitVec.slt
        have e := toInt_ofNat_of_lt (w := 32) (a := b - a) (by omega)
        rw [BitVec.toInt_neg, e]
        simp only [Int.bmod_def, BitVec.toInt_zero, decide_eq_false_iff_not]; omega
      rw [hs]; rfl

/-! ## The sizes -/

/-- The group sizes as naturals. -/
def sizes (x : IVec S16 32) (g : ℕ) : ℕ := if h : g < 16 then (x (ix1 ⟨g, h⟩)).toNat else 0

theorem x_at (x : IVec S16 32) (g : Fin 16) : x (ix1 g) = BitVec.ofNat 32 (sizes x g.val) := by
  unfold sizes; rw [dif_pos g.isLt]; simp

/-- `floor_divide` by 512 of the word of a small natural. -/
theorem fdiv_at (y : IVec S16 32) (g : Fin 16) {a : ℕ} (hy : y (ix1 g) = BitVec.ofNat 32 a) (ha : a < 2 ^ 31) :
    fdiv y (ix1 g) = BitVec.ofNat 32 (a / 512) :=
  pyDiv_ap (hb := bcast_S_S16) y (constantI S_ 32 512#32) (ix1 g) (b := 512) hy rfl ha (by decide) (by decide)

theorem csum_at (y : IVec S16 32) (f : ℕ → ℕ) (hy : ∀ i : Fin 16, y (ix1 i) = BitVec.ofNat 32 (f i.val)) (g : Fin 16) :
    csum y (ix1 g) = BitVec.ofNat 32 (P f (g.val + 1)) := by
  rw [← sum_range_eq]
  exact cumsum1 (N := 16) (Nm1 := 15) rfl y f hy _ (by rw [bc0]; rfl) _ _ g

theorem rep16_at (b : BitVec 32) (g : Fin 16) : rep16 b (ix1 g) = b := bc0 _ _ _
theorem rep143_at (b : BitVec 32) (t : Fin 143) : rep143 b (ix1 t) = b := bc0 _ _ _

section
variable (x : IVec S16 32) (hx : P (sizes x) 16 = 65536)
include hx

theorem P_le {n : ℕ} (h : n ≤ 16) : P (sizes x) n ≤ 65536 := hx ▸ P_mono _ h

omit hx in
theorem hEnds_at (g : Fin 16) : hEnds x (ix1 g) = BitVec.ofNat 32 (P (sizes x) (g.val + 1)) := csum_at x _ (x_at x) g

omit hx in
theorem hStarts_at (g : Fin 16) : hStarts x (ix1 g) = BitVec.ofNat 32 (P (sizes x) g.val) := by
  unfold hStarts
  rw [subi_ap, hEnds_at, x_at x, ofNat32_sub (by rw [P_succ]; omega), P_succ, Nat.add_sub_cancel]

theorem hFirstTile_at (g : Fin 16) : hFirstTile x (ix1 g) = BitVec.ofNat 32 (P (sizes x) g.val / 512) :=
  fdiv_at _ g (hStarts_at x g) (by have := P_le x hx (show g.val ≤ 16 by omega); omega)

theorem hCount_at (g : Fin 16) : hCount x (ix1 g) = BitVec.ofNat 32 (cnt (sizes x) g.val) := by
  have h1 := P_le x hx (show g.val + 1 ≤ 16 by omega)
  have h2 := P_succ (sizes x) g.val
  unfold hCount
  rw [select_at, cmpi_at, x_at x, rep16_at, show (0#32 : BitVec 32) = BitVec.ofNat 32 0 from rfl, cmpi_sgt_ofNat (w := 32) (by omega) (by decide),
    select_decide]
  unfold cnt
  split
  · next h =>
    have hl : hLastTile x (ix1 g) = BitVec.ofNat 32 ((P (sizes x) (g.val + 1) - 1) / 512) :=
      fdiv_at _ g (by rw [subi_ap, hEnds_at, rep16_at, show (1#32 : BitVec 32) = BitVec.ofNat 32 1 from rfl, ofNat32_sub (by omega)]) (by omega)
    rw [addi_ap, subi_ap, hl, hFirstTile_at x hx, rep16_at, ofNat32_sub (by omega), show (1#32 : BitVec 32) = BitVec.ofNat 32 1 from rfl,
      ← BitVec.ofNat_add]
  · rfl

theorem hVe_at (g : Fin 16) : hVe x (ix1 g) = BitVec.ofNat 32 (C (sizes x) (g.val + 1)) := csum_at _ _ (hCount_at x hx) g

theorem hTotal_at (j : S_.Idx) : hTotal x j = BitVec.ofNat 32 (C (sizes x) 16) := by
  unfold hTotal
  rw [shapeCast_apply _ _ j (ix1 (0 : Fin 1)) (by
    rw [Shape.rowMajor_val_one]
    have h1 := (S_.rowMajor j).isLt
    have h2 : S_.numel = 1 := by decide
    show 0 = _; omega), slice1 (m := 16) (n := 1) 15 _ _ 0 (by decide)]
  exact hVe_at x hx 15

theorem hVc_at (t : Fin 143) : hVc x (ix1 t) = BitVec.ofNat 32 (vc (sizes x) t.val) := by
  have h1 := total_pos _ hx
  have h2 := total_le _ hx
  unfold hVc
  show IntOp.minsi (BitVec.ofNat 32 t.val) (broadcastInDim S143 ![] bcast_S_S143 (subi (hTotal x) (constantI S_ 32 1#32)) (ix1 t)) = _
  rw [bc0, subi_ap, hTotal_at x hx, constantI_at, show (1#32 : BitVec 32) = BitVec.ofNat 32 1 from rfl, ofNat32_sub (by omega), minsi_nat (by omega) (by omega)]

theorem hCnt_at (t : Fin 143) : hCnt x (ix1 t) = BitVec.ofNat 32 (grp (sizes x) (vc (sizes x) t.val)) := by
  have h1 := total_pos _ hx
  have h2 := total_le _ hx
  refine reduce_count (n := 143) (m := 16) (by decide) _ _ _ _ t (fun j => C (sizes x) (j + 1) ≤ vc (sizes x) t.val) fun q => ?_
  have h3 : C (sizes x) (q.val + 1) ≤ C (sizes x) 16 := C_mono _ (by omega)
  rw [cmpi_at]
  have e1 : broadcastInDim S143x16 ![0, 1] bcast_S1x16_S143x16_0_1 (broadcastInDim S1x16 ![1] bcast_S16_S1x16_1 (hVe x)) (ix2 t q) = hVe x (ix1 q) :=
    bcCols (n := 143) (m := 16) _ _ _ t q
  have e2 : broadcastInDim S143x16 ![0, 1] bcast_S143x1_S143x16_0_1 (broadcastInDim S143x1 ![0] bcast_S143_S143x1_0 (hVc x)) (ix2 t q) = hVc x (ix1 t) :=
    bcRows (n := 143) (m := 16) _ _ _ t q
  rw [e1, e2, hVe_at x hx, hVc_at x hx]
  exact cmpi_sle_ofNat_eq_one_iff (w := 32) (by omega) (by unfold vc; omega)

/-- The group table. -/
theorem hG_at (t : Fin 143) : hG x (ix1 t) = BitVec.ofNat 32 (grp (sizes x) (vc (sizes x) t.val)) := by
  have h := (visit _ hx (vc_lt _ hx t.val)).1
  show IntOp.minsi (hCnt x (ix1 t)) (rep143 15#32 (ix1 t)) = _
  rw [hCnt_at x hx, rep143_at, show (15#32 : BitVec 32) = BitVec.ofNat 32 15 from rfl, minsi_nat (by omega) (by decide), Nat.min_eq_left (by omega)]

/-- A table of the groups, taken at the visit's group. -/
theorem takeG_at (tb : IVec S16 32) (t : Fin 143) : takeG x tb (ix1 t) = tb (ix1 ⟨grp (sizes x) (vc (sizes x) t.val), (visit _ hx (vc_lt _ hx t.val)).1⟩) := by
  have h := (visit _ hx (vc_lt _ hx t.val)).1
  unfold takeG
  refine gather_take1 (N := 16) (n := 143) _ rfl rfl rfl rfl tb _ t ⟨_, h⟩ ?_ (by decide)
  have e := hG_at x hx t
  rw [bcCol (n := 143), select_at, cmpi_at, rep143_at, e]
  exact wrap_of_lt _ _ (by rw [BitVec.toNat_ofNat]; omega)

theorem hWithin_at (t : Fin 143) : hWithin x (ix1 t) = BitVec.ofNat 32 (vc (sizes x) t.val - C (sizes x) (grp (sizes x) (vc (sizes x) t.val))) := by
  obtain ⟨h1, h2, h3⟩ := grp_spec _ (vc_lt _ hx t.val)
  have h4 := C_succ (sizes x) (grp (sizes x) (vc (sizes x) t.val))
  unfold hWithin
  rw [subi_ap, subi_ap, takeG_at x hx, takeG_at x hx, hVe_at x hx, hCount_at x hx, hVc_at x hx, ofNat32_sub (by simp only; omega), ofNat32_sub (by simp only; omega)]
  congr 1; simp only; omega

/-- The tile table. -/
theorem hTile_at (t : Fin 143) : hTile x (ix1 t) = BitVec.ofNat 32 (tile (sizes x) (vc (sizes x) t.val)) := by
  unfold hTile
  rw [addi_ap, takeG_at x hx, hFirstTile_at x hx, hWithin_at x hx, ← BitVec.ofNat_add]; rfl

theorem hTile512_at (t : Fin 143) : muli (hTile x) (rep143 512#32) (ix1 t) = BitVec.ofNat 32 (512 * tile (sizes x) (vc (sizes x) t.val)) := by
  rw [muli_ap, hTile_at x hx, rep143_at, show (512#32 : BitVec 32) = BitVec.ofNat 32 512 from rfl, ← BitVec.ofNat_mul, Nat.mul_comm]

/-- The table of first rows. -/
theorem hLo_at (t : Fin 143) : hLo x (ix1 t) = BitVec.ofNat 32 (lo (sizes x) (vc (sizes x) t.val)) := by
  obtain ⟨h1, h2, -⟩ := visit _ hx (vc_lt _ hx t.val)
  have h3 := P_le x hx h1.le
  show IntOp.maxsi (subi (takeG x (hStarts x)) (muli (hTile x) (rep143 512#32)) (ix1 t)) (rep143 0#32 (ix1 t)) = _
  rw [subi_ap, takeG_at x hx, hStarts_at, hTile512_at x hx, rep143_at]
  exact maxsi_sub (by simp only; omega) (by omega)

/-- The table of rows one past the last. -/
theorem hHi_at (t : Fin 143) : hHi x (ix1 t) = BitVec.ofNat 32 (hi (sizes x) (vc (sizes x) t.val)) := by
  obtain ⟨h1, h2, h4, h5, h6, -⟩ := visit _ hx (vc_lt _ hx t.val)
  have h3 := P_le x hx (show grp (sizes x) (vc (sizes x) t.val) + 1 ≤ 16 by omega)
  show IntOp.minsi (subi (takeG x (hEnds x)) (muli (hTile x) (rep143 512#32)) (ix1 t)) (rep143 512#32 (ix1 t)) = _
  rw [subi_ap, takeG_at x hx, hEnds_at, hTile512_at x hx, rep143_at, ofNat32_sub (by simp only; omega), show (512#32 : BitVec 32) = BitVec.ofNat 32 512 from rfl,
    minsi_nat (by simp only; omega) (by decide)]
  rfl

/-- The table of group starts: one where the visit is its group's first. -/
theorem hFirst_at (t : Fin 143) : hFirst x (ix1 t)
    = BitVec.ofNat 32 (if vc (sizes x) t.val = C (sizes x) (grp (sizes x) (vc (sizes x) t.val)) then 1 else 0) := by
  obtain ⟨h1, h2, h3⟩ := grp_spec _ (vc_lt _ hx t.val)
  have h4 := total_le _ hx
  have h5 := vc_lt _ hx t.val
  show (IntOp.cmpi .eq (hWithin x (ix1 t)) (rep143 0#32 (ix1 t))).setWidth 32 = _
  rw [hWithin_at x hx, rep143_at, show (0#32 : BitVec 32) = BitVec.ofNat 32 0 from rfl, cmpi_eq_ofNat (w := 32) (by omega) (by decide), setWidth_ofBool]
  congr 1; split <;> split <;> omega

/-- The table of the visits there are. -/
theorem hLive_at (t : Fin 143) : hLive x (ix1 t) = BitVec.ofNat 32 (if t.val < C (sizes x) 16 then 1 else 0) := by
  have h4 := total_le _ hx
  show (IntOp.cmpi .slt (BitVec.ofNat 32 t.val) (broadcastInDim S143 ![] bcast_S_S143 (hTotal x) (ix1 t))).setWidth 32 = _
  rw [bc0, hTotal_at x hx, cmpi_slt_ofNat (w := 32) (by omega) (by omega), setWidth_ofBool]

end

end Cert.Words

end
-- ==== Proof.PreDecode.lean ====
/- The precondition read as arithmetic: the sixteen group sizes, as naturals, add up to 65536. Hand-written, untrusted. -/
module

public import proofs.«01_k».proof.Pre_sizes_cover_rows
public import proofs.«01_k».proof.Proof.WordVals
public import Idealize.ShloMosaic.Lib.StableHlo.Predicate

@[expose] public section

noncomputable section

namespace Cert.Words

open Cert.Tables
open Idealize.ShloMosaic Idealize.ShloMosaic.Routing Idealize.ShloMosaic.ValueIdx Idealize.ShloMosaic.WordCmp

/-- Terms at most `b` add up to at most `n * b`. -/
theorem P_le_mul (s : ℕ → ℕ) (b : ℕ) (h : ∀ g, s g ≤ b) (n : ℕ) : P s n ≤ n * b := by
  induction n with
  | zero => simp [P]
  | succ n ih => have := h n; rw [P, Nat.succ_mul]; omega

/-- The precondition over the group sizes `x`: each lies in 0 .. 65536 and, as words, they add up to 65536; so they do
    as naturals, no sum of sixteen such words wrapping. -/
theorem total_of_pre [Cert.Pre_sizes_cover_rows.Facts] {F : FTy → Type} [FloatOps F]
    (a0 : FVec F Cert.Pre_sizes_cover_rows.S65536x3072 .bf16) (x : IVec Cert.Pre_sizes_cover_rows.S16 32)
    (a2 : FVec F Cert.Pre_sizes_cover_rows.S16x2048x3072 .fp8e4m3) (a3 : FVec F Cert.Pre_sizes_cover_rows.S16x2048 .f32)
    (h1 : (Cert.Pre_sizes_cover_rows.fn a0 x a2 a3).1 = fun _ => 1#1)
    (h2 : (Cert.Pre_sizes_cover_rows.fn a0 x a2 a3).2 = fun _ => 1#1) : P (sizes x) 16 = 65536 := by
  have hb : ∀ g, sizes x g ≤ 65536 := by
    intro g
    unfold sizes
    split
    · rename_i hg
      have e := congrFun h1 (ix1 ⟨g, hg⟩)
      have e' : IntOp.cmpi .sge (x (ix1 ⟨g, hg⟩)) 0#32 &&& IntOp.cmpi .sle (x (ix1 ⟨g, hg⟩)) 65536#32 = 1#1 := e
      generalize x (ix1 ⟨g, hg⟩) = w at e'
      simp only [IntOp.cmpi] at e'
      have h0 : ∀ a b : Bool, BitVec.ofBool a &&& BitVec.ofBool b = 1#1 → a = true ∧ b = true := by decide
      obtain ⟨p, q⟩ := h0 _ _ e'
      simp only [BitVec.sle, decide_eq_true_eq] at p q
      have i0 : (0#32 : BitVec 32).toInt = 0 := by decide
      have i1 : (65536#32 : BitVec 32).toInt = 65536 := by decide
      rw [i0] at p; rw [i1] at q
      have hc := BitVec.toInt_eq_toNat_cond w
      have := w.isLt
      split at hc <;> omega
    · omega
  have e := congrFun h2 ix0
  have e' : IntOp.cmpi .eq (Host.reduce IntOp.addi x (constantI Cert.Pre_sizes_cover_rows.S_ 32 0#32)
      Cert.Pre_sizes_cover_rows.Facts.reducesTo_S16_S_d0 Cert.Pre_sizes_cover_rows.Facts.h_S_ ix0) 65536#32 = 1#1 := e
  have hs := reduce_sum (N := 16) x (sizes x) (x_at x) Cert.Pre_sizes_cover_rows.Facts.reducesTo_S16_S_d0 Cert.Pre_sizes_cover_rows.Facts.h_S_
  rw [StableHlo.Predicate.cmpi_eq_iff] at e'
  have e2 := hs.symm.trans e'
  rw [sum_range_eq] at e2
  have hle := P_le_mul (sizes x) 65536 hb 16
  have := congrArg BitVec.toNat e2
  simp only [BitVec.toNat_ofNat] at this
  omega

end Cert.Words

end
-- ==== Proof.KB.Ok.lean ====
/- The tables' entries as naturals, and the pipeline's side condition from the precondition. Hand-written, untrusted. -/
module

public import proofs.«01_k».proof.Proof.KB.Reads
public import proofs.«01_k».proof.Proof.PreDecode

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Routing Idealize.ShloMosaic.ValueIdx Cert.Tables Cert.Words

variable (m : (ℓ : Loc nD τ sig) → Buf (Elt F) ℓ) (ρ : Dev nD → PrngReg)

/-- The group sizes the launch memory holds. -/
abbrev szs : ℕ → ℕ := sizes (sz m 0)
/-- What the precondition says of them. -/
abbrev Cov : Prop := P (szs m) 16 = 65536
/-- The visit that grid point `t` runs. -/
abbrev vt (t : ℕ) : ℕ := vc (szs m) t

/-- A grid point's index as a natural below 143. -/
abbrev gi (i : grid0.Coords) : Fin 143 := i 0

theorem cast_pt : ∀ v : Fin 143, (Scalar.indexCast (BitVec.ofNat 32 v.val)).toNat = v.val := by decide

theorem off1_eq (i : grid0.Coords) : k0_off1 i = ![(gi i).val] := by
  unfold k0_off1; simp only [cast_pt (gi i)]

theorem at_eq (i : grid0.Coords) (h : ∀ a, ![(Scalar.indexCast (BitVec.ofNat 32 (i 0).val)).toNat] a + S1.size a ≤ S143.size a) :
    ((Rect.unit (s := S143) ![(Scalar.indexCast (BitVec.ofNat 32 (i 0).val)).toNat] S1.size h).emb (Shape.Idx.first (numel1_S1.symm ▸ Nat.one_pos))) = ix1 (gi i) := by
  funext a
  obtain rfl : a = 0 := Subsingleton.elim _ _
  apply Fin.ext
  rw [Rect.emb_apply]
  show (Scalar.indexCast (BitVec.ofNat 32 (i 0).val)).toNat + 1 * 0 = (gi i).val
  rw [cast_pt (gi i)]; omega

theorem tbl0_at (hc : Cov m) (t : Fin 143) : (tbl m 0 : IVec S143 32) (ix1 t) = BitVec.ofNat 32 (tile (szs m) (vt m t.val)) :=
  (congrFun (V_v51 m 0) (ix1 t)).trans (hTile_at (sz m 0) hc t)
theorem tbl1_at (hc : Cov m) (t : Fin 143) : (tbl m 1 : IVec S143 32) (ix1 t) = BitVec.ofNat 32 (grp (szs m) (vt m t.val)) :=
  (congrFun (V_v27 m 0) (ix1 t)).trans (hG_at (sz m 0) hc t)
theorem tbl2_at (hc : Cov m) (t : Fin 143) : (tbl m 2 : IVec S143 32) (ix1 t) = BitVec.ofNat 32 (lo (szs m) (vt m t.val)) :=
  (congrFun (V_v63 m 0) (ix1 t)).trans (hLo_at (sz m 0) hc t)
theorem tbl3_at (hc : Cov m) (t : Fin 143) : (tbl m 3 : IVec S143 32) (ix1 t) = BitVec.ofNat 32 (hi (szs m) (vt m t.val)) :=
  (congrFun (V_v75 m 0) (ix1 t)).trans (hHi_at (sz m 0) hc t)
theorem tbl4_at (hc : Cov m) (t : Fin 143) : (tbl m 4 : IVec S143 32) (ix1 t)
    = BitVec.ofNat 32 (if vt m t.val = C (szs m) (grp (szs m) (vt m t.val)) then 1 else 0) :=
  (congrFun (V_v78 m 0) (ix1 t)).trans (hFirst_at (sz m 0) hc t)
theorem tbl5_at (hc : Cov m) (t : Fin 143) : (tbl m 5 : IVec S143 32) (ix1 t)
    = BitVec.ofNat 32 (if t.val < C (szs m) 16 then 1 else 0) :=
  (congrFun (V_v81 m 0) (ix1 t)).trans (hLive_at (sz m 0) hc t)

/-- The blocks of the tiled rows' windows: row block `tile`, -/
theorem tr0_eq (hc : Cov m) (i : grid0.Coords) : cc0_transform_0 k0_off1_inb numel1_S1 (tbl m) i = ![tile (szs m) (vt m (gi i).val), 0] := by
  have hv : tile (szs m) (vt m (gi i).val) < 128 := (visit (szs m) hc (vc_lt (szs m) hc (gi i).val)).2.1
  have e := tbl0_at m hc (gi i)
  have e' := (congrArg (tbl m 0) (at_eq i (k0_off1_inb i))).trans e
  funext a
  match a with
  | 0 => exact (congrArg BitVec.toNat e').trans ((BitVec.toNat_ofNat _ _).trans (Nat.mod_eq_of_lt (by omega)))
  | 1 => rfl
theorem tr3_eq (hc : Cov m) (i : grid0.Coords) : cc0_transform_3 k0_off1_inb numel1_S1 (tbl m) i = ![tile (szs m) (vt m (gi i).val), 0] := by
  have hv : tile (szs m) (vt m (gi i).val) < 128 := (visit (szs m) hc (vc_lt (szs m) hc (gi i).val)).2.1
  have e := tbl0_at m hc (gi i)
  have e' := (congrArg (tbl m 0) (at_eq i (k0_off1_inb i))).trans e
  funext a
  match a with
  | 0 => exact (congrArg BitVec.toNat e').trans ((BitVec.toNat_ofNat _ _).trans (Nat.mod_eq_of_lt (by omega)))
  | 1 => rfl
/-- and of the weights' windows: group `grp`. -/
theorem tr1_eq (hc : Cov m) (i : grid0.Coords) : cc0_transform_1 k0_off1_inb numel1_S1 (tbl m) i = ![grp (szs m) (vt m (gi i).val), 0, 0] := by
  have hv : grp (szs m) (vt m (gi i).val) < 16 := (visit (szs m) hc (vc_lt (szs m) hc (gi i).val)).1
  have e := tbl1_at m hc (gi i)
  have e' := (congrArg (tbl m 1) (at_eq i (k0_off1_inb i))).trans e
  funext a
  match a with
  | 0 => exact (congrArg BitVec.toNat e').trans ((BitVec.toNat_ofNat _ _).trans (Nat.mod_eq_of_lt (by omega)))
  | 1 => rfl
  | 2 => rfl
theorem tr2_eq (hc : Cov m) (i : grid0.Coords) : cc0_transform_2 k0_off1_inb numel1_S1 (tbl m) i = ![grp (szs m) (vt m (gi i).val), 0, 0] := by
  have hv : grp (szs m) (vt m (gi i).val) < 16 := (visit (szs m) hc (vc_lt (szs m) hc (gi i).val)).1
  have e := tbl1_at m hc (gi i)
  have e' := (congrArg (tbl m 1) (at_eq i (k0_off1_inb i))).trans e
  funext a
  match a with
  | 0 => exact (congrArg BitVec.toNat e').trans ((BitVec.toNat_ofNat _ _).trans (Nat.mod_eq_of_lt (by omega)))
  | 1 => rfl
  | 2 => rfl

/-- The pipeline's side condition: every window's block lies inside its array, its transfer a whole number of words. -/
theorem ok_of_cov (hc : Cov m) : Ok m := by
  unfold Ok ok0
  have hv : ∀ i : grid0.Coords, grp (szs m) (vt m (gi i).val) < 16 ∧ tile (szs m) (vt m (gi i).val) < 128 :=
    fun i => (fun h => ⟨h.1, h.2.1⟩) <| visit (szs m) hc (vc_lt (szs m) hc (gi i).val)
  have h0 : ∀ i a, (cc0_transform_0 k0_off1_inb numel1_S1 (tbl m) i a + 1) * S512x3072.size a ≤ S65536x3072.size a := by
    intro i a; rw [tr0_eq m hc]; have := (hv i).2
    match a with
    | 0 => show (tile (szs m) (vt m (gi i).val) + 1) * 512 ≤ 65536; omega
    | 1 => show (0 + 1) * 3072 ≤ 3072; omega
  have h1 : ∀ i a, (cc0_transform_1 k0_off1_inb numel1_S1 (tbl m) i a + 1) * S1x2048x3072.size a ≤ S16x2048x3072.size a := by
    intro i a; rw [tr1_eq m hc]; have := (hv i).1
    match a with
    | 0 => show (grp (szs m) (vt m (gi i).val) + 1) * 1 ≤ 16; omega
    | 1 => show (0 + 1) * 2048 ≤ 2048; omega
    | 2 => show (0 + 1) * 3072 ≤ 3072; omega
  have h2 : ∀ i a, (cc0_transform_2 k0_off1_inb numel1_S1 (tbl m) i a + 1) * S1x2048x1.size a ≤ S16x2048x1.size a := by
    intro i a; rw [tr2_eq m hc]; have := (hv i).1
    match a with
    | 0 => show (grp (szs m) (vt m (gi i).val) + 1) * 1 ≤ 16; omega
    | 1 => show (0 + 1) * 2048 ≤ 2048; omega
    | 2 => show (0 + 1) * 1 ≤ 1; omega
  have h3 : ∀ i a, (cc0_transform_3 k0_off1_inb numel1_S1 (tbl m) i a + 1) * S512x2048.size a ≤ S65536x2048.size a := by
    intro i a; rw [tr3_eq m hc]; have := (hv i).2
    match a with
    | 0 => show (tile (szs m) (vt m (gi i).val) + 1) * 512 ≤ 65536; omega
    | 1 => show (0 + 1) * 2048 ≤ 2048; omega
  refine ⟨fun i => ⟨h0 i, .inr (.inl (.inr ⟨by decide, rfl, .inl ⟨Dvd.dvd.mul_left (by decide) _, by show 2 ∣ 512; decide⟩⟩))⟩,
    fun i => ⟨h1 i, .inr (.inr ⟨by decide, rfl, ?_, rfl⟩)⟩, fun i => ⟨h2 i, .inl rfl⟩,
    fun i => ⟨h3 i, .inr (.inl (.inr ⟨by decide, rfl, .inl ⟨Dvd.dvd.mul_left (by decide) _, by show 2 ∣ 512; decide⟩⟩))⟩⟩
  show cc0_transform_1 k0_off1_inb numel1_S1 (tbl m) i 1 * 2048 = 0
  rw [tr1_eq m hc]; rfl

end Cert.Kernel.Hand

end
-- ==== Proof.KB.RunF.lean ====
/- The kernel's body run once, whatever it computes. Hand-written, untrusted. -/
module

public import proofs.«01_k».proof.Proof.KB.Base

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body at any grid point, on any words of the tables: the input blocks and the tables come back as they were, the
    output block and the two scratch buffers hold something. -/
theorem runF (c : Dev nD) (i : grid0.Coords)
    (arg7 : Memref sig .tc .vmem S512x3072 .bf16) (harg7 : arg7.IsWhole)
    (arg8 : Memref sig .tc .vmem S1x2048x3072 .fp8e4m3) (harg8 : arg8.IsWhole)
    (arg9 : Memref sig .tc .vmem S1x2048x1 .f32) (harg9 : arg9.IsWhole)
    (arg10 : Memref sig .tc .vmem S512x2048 .bf16) (harg10 : arg10.IsWhole)
    (x7 : Vec F S512x3072 .bf16) (x8 : Vec F S1x2048x3072 .fp8e4m3) (x9 : Vec F S1x2048x1 .f32)
    (t0 : TbBuf (F := F) c tbM0) (t1 : TbBuf (F := F) c tbM1) (t2 : TbBuf (F := F) c tbM2) (t3 : TbBuf (F := F) c tbM3)
    (t4 : TbBuf (F := F) c tbM4) (t5 : TbBuf (F := F) c tbM5) (E : Set ℕ) (K : PUnit → sProp 𝕄) :
    iprop(owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) scW fullShare d) ∗ (∃ d, owns (c : Thread nD τ) scD fullShare d)
        ∗ tbPt c tbM0 t0 ∗ tbPt c tbM1 t1 ∗ tbPt c tbM2 t2 ∗ tbPt c tbM3 t3 ∗ tbPt c tbM4 t4 ∗ tbPt c tbM5 t5
        ∗ (iprop(owns (c : Thread nD τ) arg7 fullShare x7 ∗ owns (c : Thread nD τ) arg8 fullShare x8 ∗ owns (c : Thread nD τ) arg9 fullShare x9
          ∗ (∃ d, owns (c : Thread nD τ) arg10 fullShare d) ∗ (∃ d, owns (c : Thread nD τ) scW fullShare d) ∗ (∃ d, owns (c : Thread nD τ) scD fullShare d)
          ∗ tbPt c tbM0 t0 ∗ tbPt c tbM1 t1 ∗ tbPt c tbM2 t2 ∗ tbPt c tbM3 t3 ∗ tbPt c tbM4 t4 ∗ tbPt c tbM5 t5) -∗ K ⟨⟩))
      ⊢ wp frame (wpE (defs₀ (F := F)) Variants.none c none) E
          (cc0_grouped_dgrad i tbM0 htbM0 tbM1 htbM1 tbM2 htbM2 tbM3 htbM3 tbM4 htbM4 tbM5 htbM5 arg7 harg7 arg8 harg8 arg9 harg9 arg10 harg10 scW (Memref.isWhole_whole _) scD (Memref.isWhole_whole _)) K := by
  simp only [cc0_grouped_dgrad_eq_skeleton]; unfold cc0_grouped_dgrad_skel
  unfold owns
  iintro ⟨⟨%f7, %hf7, H7⟩, ⟨%f8, %hf8, H8⟩, ⟨%f9, %hf9, H9⟩, ⟨%d10, %f10, -, H10⟩, ⟨%d11, %f11, -, H11⟩, ⟨%d12, %f12, -, H12⟩, T0, T1, T2, T3, T4, T5, Hk⟩
  obtain rfl := harg7.eq_unread hf7
  obtain rfl := harg8.eq_unread hf8
  obtain rfl := harg9.eq_unread hf9
  sl_exec
  sl_step
  iapply Hk
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [T0]; · iexact T0
  isplitl [T1]; · iexact T1
  isplitl [T2]; · iexact T2
  isplitl [T3]; · iexact T3
  isplitl [T4]; · iexact T4
  iexact T5

end Cert.Kernel.Hand

end
-- ==== Proof.KB.Frame.lean ====
/- The frame: the kernel terminates, faults at nothing and leaves its arguments unchanged. Hand-written, untrusted. -/
module

public import proofs.«01_k».proof.Proof.KB.Ok
public import proofs.«01_k».proof.Proof.KB.RunF

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block of its array at point `t`, as the region finds the array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c)
    (hA : dat.A 0 = V m c (Pipeline.arrRef spec0 0)) (hAfter : ∀ t, dat.after 0 t = iblk m hO c 0 t) (t : Fin (cfgM m hO).N) (d) :
    dat.before 0 t d = iblk m hO c 0 t :=
  (dat.before_in_eq_fetched 0 rfl (fun _ => rfl) (fun _ _ _ => rfl) (fun t => by rw [hAfter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c)
    (hA : dat.A 1 = V m c (Pipeline.arrRef spec0 1)) (hAfter : ∀ t, dat.after 1 t = iblk m hO c 1 t) (t : Fin (cfgM m hO).N) (d) :
    dat.before 1 t d = iblk m hO c 1 t :=
  (dat.before_in_eq_fetched 1 rfl (fun _ => rfl) (fun _ _ _ => rfl) (fun t => by rw [hAfter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c)
    (hA : dat.A 2 = V m c (Pipeline.arrRef spec0 2)) (hAfter : ∀ t, dat.after 2 t = iblk m hO c 2 t) (t : Fin (cfgM m hO).N) (d) :
    dat.before 2 t d = iblk m hO c 2 t :=
  (dat.before_in_eq_fetched 2 rfl (fun _ => rfl) (fun _ _ _ => rfl) (fun t => by rw [hAfter]; unfold Dat.blockOf iblk; rw [hA]; try rfl) t d).trans
    (by unfold Dat.fetched Dat.blockOf iblk; rw [hA]; try rfl)

/-- The output window: what the kernel leaves in it is not named here. -/
def forgets0 : Fin 4 → Bool := fun w => w.val == 3

/-- The proof data: the arrays as the region finds them, each input's buffer at its block, the output unnamed, the scratch
    at some contents and the tables held. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
/-- An input's staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d

theorem after0_1 (hO : Ok m) (c : Dev nD) (t : Fin (cfgM m hO).N) : (dats m hO 0 c).after 1 t = iblk m hO c 1 t := by dsimp only [dats]; try rfl
/-- An input's staging buffer holds its block at every point, fetched there or not. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

theorem after0_2 (hO : Ok m) (c : Dev nD) (t : Fin (cfgM m hO).N) : (dats m hO 0 c).after 2 t = iblk m hO c 2 t := by dsimp only [dats]; try rfl
/-- An input's staging buffer holds its block at every point, fetched there or not. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare d))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ (∃ d, owns (c : Thread nD τ) (ms3 m hO t) fullShare d))

/-- The body at any point of the grid. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT_eq, PhiA_eq]
  iintro ⟨⟨⟨⟨HW, HD⟩, Hg⟩, T0, T1, T2, T3, T4, T5⟩, Ho, ⟨%d0, H0⟩, ⟨%d1, H1⟩, ⟨%d2, H2⟩, ⟨%d3, H3⟩⟩
  iapply (runF c (grid0.coords t) _ _ _ _ _ _ _ _ (iblk m hO c 0 t) (iblk m hO c 1 t) (iblk m hO c 2 t)
    (tbl m 0) (tbl m 1) (tbl m 2) (tbl m 3) (tbl m 4) (tbl m 5) Set.univ _)
  isplitl [H0]; · iexact H0
  isplitl [H1]; · iexact H1
  isplitl [H2]; · iexact H2
  isplitl [H3]; · iexists _; iexact H3
  isplitl [HW]; · iexact HW
  isplitl [HD]; · iexact HD
  isplitl [T0]; · iexact T0
  isplitl [T1]; · iexact T1
  isplitl [T2]; · iexact T2
  isplitl [T3]; · iexact T3
  isplitl [T4]; · iexact T4
  isplitl [T5]; · iexact T5
  iintro ⟨H0, H1, H2, H3, HW, HD, T0, T1, T2, T3, T4, T5⟩
  isplitl [HW HD Hg T0 T1 T2 T3 T4 T5]
  · isplitl [HW HD Hg]
    · isplitl [HW HD]
      · isplitl [HW]
        · iexact HW
        iexact HD
      iexact Hg
    isplitl [T0]; · iexact T0
    isplitl [T1]; · iexact T1
    isplitl [T2]; · iexact T2
    isplitl [T3]; · iexact T3
    isplitl [T4]; · iexact T4
    iexact T5
  isplitl [Ho]; · iexact Ho
  isplitl [H0]; · iexact H0
  isplitl [H1]; · iexact H1
  isplitl [H2]; · iexact H2
  iexact H3

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- A buffer of the core that is no array of the pipeline ends as the region found it. -/
theorem frame_of (hO : Ok m) (rd : (c : Dev nD) → RDat τ (Elt F) Unit ℕ (UR sig nD τ) ℕ (cfgM m hO) c) (hA : ∀ c w, (rd c).A w = V m c (Pipeline.arrRef spec0 w))
    (r : _) (h : Pipeline.RDat.FramePost ((Pipeline.pin pcfgs fun _ => adm m hO) 0) rd (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · exact (RDat.FramePost.arr_in h c 0 rfl).trans ((hA c 0).trans (V_arg m c main_arg0 (.inl rfl)))
  · exact ((h c).2 main_arg1 (by decide : main_arg1 ∈ Pipeline.restRefs sig spec0)).trans (V_arg m c main_arg1 (.inr (.inl rfl)))
  · exact (RDat.FramePost.arr_in h c 1 rfl).trans ((hA c 1).trans (V_arg m c main_arg2 (.inr (.inr (.inl rfl)))))
  · exact ((h c).2 main_arg3 (by decide : main_arg3 ∈ Pipeline.restRefs sig spec0)).trans (V_arg m c main_arg3 (.inr (.inr (.inr rfl))))

/-- Every run terminates with the arguments as launched and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => frame_of m hO _ (A_eq m hO) r h.1 c, h.2⟩) (run_main_quiescent m ρ hO)

end Cert.Kernel.Hand

end
-- ==== Proof.KI.Base.lean ====
/- What the runs of the kernel's body are stated over: the buffers' contents when the region is entered, the six
   prefetched tables read off them, the staging and scratch memrefs, and the region's invariant as a chain of
   points-tos. Hand-written, untrusted. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The stretches of host operations before the region, in order. -/
abbrev opss : List (List (HloOp τ sig (Elt F))) :=
  [hostOps0, hostOps0_1, hostOps0_2, hostOps0_3, hostOps0_4, hostOps0_5, hostOps0_6, hostOps0_7, hostOps0_8]

/-- Core `c`'s buffers when the region is entered. -/
abbrev V (c : Dev nD) (b : Ref sig .tc) : Buf (Elt F) ((c : Thread nD τ).loc b) :=
  StableHlo.after (opss (F := F)).flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub⟩

set_option maxHeartbeats 4000000 in
theorem opss_fresh : (opss (F := F)).Forall fun ops => ops.Forall fun op => op.fresh = ∅ := by
  simp only [List.Forall]; repeat' constructor

theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh main_chain

set_option maxHeartbeats 4000000 in
/-- No host operation before the region writes an argument: the region finds it as launched. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [opss, hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases hb with rfl | rfl | rfl | rfl <;>
    · repeat' apply And.intro
      all_goals exact StableHlo.devRef_ne_of_ne (by decide)))

/-! ## The prefetched tables -/

/-- The tables' contents when the region is entered. -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl
/-- The pipeline's side condition at the tables' contents. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0 : Memref sig .tc .smem S143 .i32 := Memref.whole main_v51
abbrev htbM0 : tbM0.IsWhole := Memref.isWhole_whole _
abbrev tbM1 : Memref sig .tc .smem S143 .i32 := Memref.whole main_v27
abbrev htbM1 : tbM1.IsWhole := Memref.isWhole_whole _
abbrev tbM2 : Memref sig .tc .smem S143 .i32 := Memref.whole main_v63
abbrev htbM2 : tbM2.IsWhole := Memref.isWhole_whole _
abbrev tbM3 : Memref sig .tc .smem S143 .i32 := Memref.whole main_v75
abbrev htbM3 : tbM3.IsWhole := Memref.isWhole_whole _
abbrev tbM4 : Memref sig .tc .smem S143 .i32 := Memref.whole main_v78
abbrev htbM4 : tbM4.IsWhole := Memref.isWhole_whole _
abbrev tbM5 : Memref sig .tc .smem S143 .i32 := Memref.whole main_v81
abbrev htbM5 : tbM5.IsWhole := Memref.isWhole_whole _

/-- A table's buffer on core `c` held at half the full share at `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3) ∗ tbPt c tbM4 (tbl m 4) ∗ tbPt c tbM5 (tbl m 5)) := by
  unfold Pipeline.ΦT Pipeline.prefHeld
  exact bigSep_univ_eq_bigSepL [(0 : Fin 6), (1 : Fin 6), (2 : Fin 6), (3 : Fin 6), (4 : Fin 6), (5 : Fin 6)] (by decide) (by decide) _

/-! ## The memrefs the body is handed -/

abbrev ms0 (hO : Ok m) (t : Fin (cfgM m hO).N) : Memref sig .tc .vmem S512x3072 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x2048x3072 .fp8e4m3 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x2048x1 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S512x2048 .bf16 := spec0_3.stage ((cfgM m hO).slots t 3)
abbrev hs3 (hO : Ok m) (t : Fin (cfgM m hO).N) : (ms3 m hO t).IsWhole := hstage0_3 (((cfgM m hO).slots t 3).cast nbuf0_3)
/-- The two scratch buffers: the dequantised weights and the dequantised rows. -/
abbrev scW : Memref sig .tc .vmem S2048x3072 .bf16 := Memref.whole cc0_scratch0
abbrev scD : Memref sig .tc .vmem S512x3072 .bf16 := Memref.whole cc0_scratch1

theorem PhiA_eq (c : Dev nD) :
    (Pipeline.ΦA spec0 c : sProp 𝕄)
      = iprop(iprop((∃ d, owns (c : Thread nD τ) scW fullShare d) ∗ (∃ d, owns (c : Thread nD τ) scD fullShare d)) ∗ (∃ r, prngReg c r)) := by
  unfold Pipeline.ΦA; rw [scopedRest0_eq]; simp only [scW, scD, owns_whole]; try rfl

/-- The kernel body at point `t`, on what the pipeline calls it with. -/
abbrev bodyAt (hO : Ok m) (t : Fin (cfgM m hO).N) : Prog (TpuEff nD τ sig (Elt F) Λ₀ .tc) PUnit :=
  cc0_grouped_dgrad (grid0.coords t) tbM0 htbM0 tbM1 htbM1 tbM2 htbM2 tbM3 htbM3 tbM4 htbM4 tbM5 htbM5
    (ms0 m hO t) (hs0 m hO t) (ms1 m hO t) (hs1 m hO t) (ms2 m hO t) (hs2 m hO t) (ms3 m hO t) (hs3 m hO t)
    scW (Memref.isWhole_whole _) scD (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.KernelIdeal.Hand

end
-- ==== Proof.KI.Reads.lean ====
/- What the prefetched tables hold when the region is entered, read off the host operations. Hand-written, untrusted. -/
module

public import proofs.«01_k».proof.Proof.KI.Base
public import proofs.«01_k».proof.Proof.Words
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The group sizes as launched. -/
abbrev sz (c : Dev nD) : IVec Cert.KernelIdeal.S16 32 := m ((c : Thread nD τ).loc main_arg1)

set_option maxHeartbeats 1000000 in
theorem V_v51 (c : Dev nD) : V m c main_v51 = (Cert.Words.hTile (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

set_option maxHeartbeats 1000000 in
theorem V_v27 (c : Dev nD) : V m c main_v27 = (Cert.Words.hG (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

set_option maxHeartbeats 1000000 in
theorem V_v63 (c : Dev nD) : V m c main_v63 = (Cert.Words.hLo (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

set_option maxHeartbeats 1000000 in
theorem V_v75 (c : Dev nD) : V m c main_v75 = (Cert.Words.hHi (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

set_option maxHeartbeats 1000000 in
theorem V_v78 (c : Dev nD) : V m c main_v78 = (Cert.Words.hFirst (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

set_option maxHeartbeats 1000000 in
theorem V_v81 (c : Dev nD) : V m c main_v81 = (Cert.Words.hLive (sz m c) : IVec Cert.KernelIdeal.S143 32) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]
  simp only [Words.hTile, Words.hG, Words.hLo, Words.hHi, Words.hFirst, Words.hLive, Words.hWithin, Words.takeG, Words.hCnt, Words.hVc,
    Words.hTotal, Words.hVe, Words.hCount, Words.hLastTile, Words.hFirstTile, Words.hStarts, Words.hEnds, Words.fdiv, Words.rep143,
    Words.rep16, Words.csum, sz]
  all_goals rfl

/-- The scales' window array: the scales with a unit axis added. -/
theorem V_v82 (c : Dev nD) : V m c main_v82 = broadcastInDim S16x2048x1 ![0, 1] bcast_S16x2048_S16x2048x1_0_1 (m ((c : Thread nD τ).loc main_arg3)) := by
  unfold V opss
  simp only [List.flatten_cons, List.flatten_nil, List.append_nil, List.cons_append, List.nil_append, hostOps0, hostOps0_1, hostOps0_2, hostOps0_3, hostOps0_4, hostOps0_5, hostOps0_6, hostOps0_7, hostOps0_8]
  after_reads_simp

end Cert.KernelIdeal.Hand

end
-- ==== Proof.KI.Ok.lean ====
/- The tables' entries as naturals, and the pipeline's side condition from the precondition. Hand-written, untrusted. -/
module

public import proofs.«01_k».proof.Proof.KI.Reads
public import proofs.«01_k».proof.Proof.PreDecode

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Routing Idealize.ShloMosaic.ValueIdx Cert.Tables Cert.Words

variable (m : (ℓ : Loc nD τ sig) → Buf (Elt F) ℓ) (ρ : Dev nD → PrngReg)

/-- The group sizes the launch memory holds. -/
abbrev szs : ℕ → ℕ := sizes (sz m 0)
/-- What the precondition says of them. -/
abbrev Cov : Prop := P (szs m) 16 = 65536
/-- The visit that grid point `t` runs. -/
abbrev vt (t : ℕ) : ℕ := vc (szs m) t

/-- A grid point's index as a natural below 143. -/
abbrev gi (i : grid0.Coords) : Fin 143 := i 0

theorem cast_pt : ∀ v : Fin 143, (Scalar.indexCast (BitVec.ofNat 32 v.val)).toNat = v.val := by decide

theorem off1_eq (i : grid0.Coords) : k0_off1 i = ![(gi i).val] := by
  unfold k0_off1; simp only [cast_pt (gi i)]

theorem at_eq (i : grid0.Coords) (h : ∀ a, ![(Scalar.indexCast (BitVec.ofNat 32 (i 0).val)).toNat] a + S1.size a ≤ S143.size a) :
    ((Rect.unit (s := S143) ![(Scalar.indexCast (BitVec.ofNat 32 (i 0).val)).toNat] S1.size h).emb (Shape.Idx.first (numel1_S1.symm ▸ Nat.one_pos))) = ix1 (gi i) := by
  funext a
  obtain rfl : a = 0 := Subsingleton.elim _ _
  apply Fin.ext
  rw [Rect.emb_apply]
  show (Scalar.indexCast (BitVec.ofNat 32 (i 0).val)).toNat + 1 * 0 = (gi i).val
  rw [cast_pt (gi i)]; omega

theorem tbl0_at (hc : Cov m) (t : Fin 143) : (tbl m 0 : IVec S143 32) (ix1 t) = BitVec.ofNat 32 (tile (szs m) (vt m t.val)) :=
  (congrFun (V_v51 m 0) (ix1 t)).trans (hTile_at (sz m 0) hc t)
theorem tbl1_at (hc : Cov m) (t : Fin 143) : (tbl m 1 : IVec S143 32) (ix1 t) = BitVec.ofNat 32 (grp (szs m) (vt m t.val)) :=
  (congrFun (V_v27 m 0) (ix1 t)).trans (hG_at (sz m 0) hc t)
theorem tbl2_at (hc : Cov m) (t : Fin 143) : (tbl m 2 : IVec S143 32) (ix1 t) = BitVec.ofNat 32 (lo (szs m) (vt m t.val)) :=
  (congrFun (V_v63 m 0) (ix1 t)).trans (hLo_at (sz m 0) hc t)
theorem tbl3_at (hc : Cov m) (t : Fin 143) : (tbl m 3 : IVec S143 32) (ix1 t) = BitVec.ofNat 32 (hi (szs m) (vt m t.val)) :=
  (congrFun (V_v75 m 0) (ix1 t)).trans (hHi_at (sz m 0) hc t)
theorem tbl4_at (hc : Cov m) (t : Fin 143) : (tbl m 4 : IVec S143 32) (ix1 t)
    = BitVec.ofNat 32 (if vt m t.val = C (szs m) (grp (szs m) (vt m t.val)) then 1 else 0) :=
  (congrFun (V_v78 m 0) (ix1 t)).trans (hFirst_at (sz m 0) hc t)
theorem tbl5_at (hc : Cov m) (t : Fin 143) : (tbl m 5 : IVec S143 32) (ix1 t)
    = BitVec.ofNat 32 (if t.val < C (szs m) 16 then 1 else 0) :=
  (congrFun (V_v81 m 0) (ix1 t)).trans (hLive_at (sz m 0) hc t)

/-- The blocks of the tiled rows' windows: row block `tile`, -/
theorem tr0_eq (hc : Cov m) (i : grid0.Coords) : cc0_transform_0 k0_off1_inb numel1_S1 (tbl m) i = ![tile (szs m) (vt m (gi i).val), 0] := by
  have hv : tile (szs m) (vt m (gi i).val) < 128 := (visit (szs m) hc (vc_lt (szs m) hc (gi i).val)).2.1
  have e := tbl0_at m hc (gi i)
  have e' := (congrArg (tbl m 0) (at_eq i (k0_off1_inb i))).trans e
  funext a
  match a with
  | 0 => exact (congrArg BitVec.toNat e').trans ((BitVec.toNat_ofNat _ _).trans (Nat.mod_eq_of_lt (by omega)))
  | 1 => rfl
theorem tr3_eq (hc : Cov m) (i : grid0.Coords) : cc0_transform_3 k0_off1_inb numel1_S1 (tbl m) i = ![tile (szs m) (vt m (gi i).val), 0] := by
  have hv : tile (szs m) (vt m (gi i).val) < 128 := (visit (szs m) hc (vc_lt (szs m) hc (gi i).val)).2.1
  have e := tbl0_at m hc (gi i)
  have e' := (congrArg (tbl m 0) (at_eq i (k0_off1_inb i))).trans e
  funext a
  match a with
  | 0 => exact (congrArg BitVec.toNat e').trans ((BitVec.toNat_ofNat _ _).trans (Nat.mod_eq_of_lt (by omega)))
  | 1 => rfl
/-- and of the weights' windows: group `grp`. -/
theorem tr1_eq (hc : Cov m) (i : grid0.Coords) : cc0_transform_1 k0_off1_inb numel1_S1 (tbl m) i = ![grp (szs m) (vt m (gi i).val), 0, 0] := by
  have hv : grp (szs m) (vt m (gi i).val) < 16 := (visit (szs m) hc (vc_lt (szs m) hc (gi i).val)).1
  have e := tbl1_at m hc (gi i)
  have e' := (congrArg (tbl m 1) (at_eq i (k0_off1_inb i))).trans e
  funext a
  match a with
  | 0 => exact (congrArg BitVec.toNat e').trans ((BitVec.toNat_ofNat _ _).trans (Nat.mod_eq_of_lt (by omega)))
  | 1 => rfl
  | 2 => rfl
theorem tr2_eq (hc : Cov m) (i : grid0.Coords) : cc0_transform_2 k0_off1_inb numel1_S1 (tbl m) i = ![grp (szs m) (vt m (gi i).val), 0, 0] := by
  have hv : grp (szs m) (vt m (gi i).val) < 16 := (visit (szs m) hc (vc_lt (szs m) hc (gi i).val)).1
  have e := tbl1_at m hc (gi i)
  have e' := (congrArg (tbl m 1) (at_eq i (k0_off1_inb i))).trans e
  funext a
  match a with
  | 0 => exact (congrArg BitVec.toNat e').trans ((BitVec.toNat_ofNat _ _).trans (Nat.mod_eq_of_lt (by omega)))
  | 1 => rfl
  | 2 => rfl

/-- The pipeline's side condition: every window's block lies inside its array, its transfer a whole number of words. -/
theorem ok_of_cov (hc : Cov m) : Ok m := by
  unfold Ok ok0
  have hv : ∀ i : grid0.Coords, grp (szs m) (vt m (gi i).val) < 16 ∧ tile (szs m) (vt m (gi i).val) < 128 :=
    fun i => (fun h => ⟨h.1, h.2.1⟩) <| visit (szs m) hc (vc_lt (szs m) hc (gi i).val)
  have h0 : ∀ i a, (cc0_transform_0 k0_off1_inb numel1_S1 (tbl m) i a + 1) * S512x3072.size a ≤ S65536x3072.size a := by
    intro i a; rw [tr0_eq m hc]; have := (hv i).2
    match a with
    | 0 => show (tile (szs m) (vt m (gi i).val) + 1) * 512 ≤ 65536; omega
    | 1 => show (0 + 1) * 3072 ≤ 3072; omega
  have h1 : ∀ i a, (cc0_transform_1 k0_off1_inb numel1_S1 (tbl m) i a + 1) * S1x2048x3072.size a ≤ S16x2048x3072.size a := by
    intro i a; rw [tr1_eq m hc]; have := (hv i).1
    match a with
    | 0 => show (grp (szs m) (vt m (gi i).val) + 1) * 1 ≤ 16; omega
    | 1 => show (0 + 1) * 2048 ≤ 2048; omega
    | 2 => show (0 + 1) * 3072 ≤ 3072; omega
  have h2 : ∀ i a, (cc0_transform_2 k0_off1_inb numel1_S1 (tbl m) i a + 1) * S1x2048x1.size a ≤ S16x2048x1.size a := by
    intro i a; rw [tr2_eq m hc]; have := (hv i).1
    match a with
    | 0 => show (grp (szs m) (vt m (gi i).val) + 1) * 1 ≤ 16; omega
    | 1 => show (0 + 1) * 2048 ≤ 2048; omega
    | 2 => show (0 + 1) * 1 ≤ 1; omega
  have h3 : ∀ i a, (cc0_transform_3 k0_off1_inb numel1_S1 (tbl m) i a + 1) * S512x2048.size a ≤ S65536x2048.size a := by
    intro i a; rw [tr3_eq m hc]; have := (hv i).2
    match a with
    | 0 => show (tile (szs m) (vt m (gi i).val) + 1) * 512 ≤ 65536; omega
    | 1 => show (0 + 1) * 2048 ≤ 2048; omega
  refine ⟨fun i => ⟨h0 i, .inr (.inl (.inr ⟨by decide, rfl, .inl ⟨Dvd.dvd.mul_left (by decide) _, by show 2 ∣ 512; decide⟩⟩))⟩,
    fun i => ⟨h1 i, .inr (.inr ⟨by decide, rfl, ?_, rfl⟩)⟩, fun i => ⟨h2 i, .inl rfl⟩,
    fun i => ⟨h3 i, .inr (.inl (.inr ⟨by decide, rfl, .inl ⟨Dvd.dvd.mul_left (by decide) _, by show 2 ∣ 512; decide⟩⟩))⟩⟩
  show cc0_transform_1 k0_off1_inb numel1_S1 (tbl m) i 1 * 2048 = 0
  rw [tr1_eq m hc]; rfl

end Cert.KernelIdeal.Hand

end
-- ==== Proof.KI.RunF.lean ====
/- The kernel's body run once, whatever it computes. Hand-written, untrusted. -/
module

public import proofs.«01_k».proof.Proof.KI.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body at any grid point, on any words of the tables: the input blocks and the tables come back as they were, the
    output block and the two scratch buffers hold something. -/
theorem runF (c : Dev nD) (i : grid0.Coords)
    (arg7 : Memref sig .tc .vmem S512x3072 .bf16) (harg7 : arg7.IsWhole)
    (arg8 : Memref sig .tc .vmem S1x2048x3072 .fp8e4m3) (harg8 : arg8.IsWhole)
    (arg9 : Memref sig .tc .vmem S1x2048x1 .f32) (harg9 : arg9.IsWhole)
    (arg10 : Memref sig .tc .vmem S512x2048 .bf16) (harg10 : arg10.IsWhole)
    (x7 : Vec F S512x3072 .bf16) (x8 : Vec F S1x2048x3072 .fp8e4m3) (x9 : Vec F S1x2048x1 .f32)
    (t0 : TbBuf (F := F) c tbM0) (t1 : TbBuf (F := F) c tbM1) (t2 : TbBuf (F := F) c tbM2) (t3 : TbBuf (F := F) c tbM3)
    (t4 : TbBuf (F := F) c tbM4) (t5 : TbBuf (F := F) c tbM5) (E : Set ℕ) (K : PUnit → sProp 𝕄) :
    iprop(owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) scW fullShare d) ∗ (∃ d, owns (c : Thread nD τ) scD fullShare d)
        ∗ tbPt c tbM0 t0 ∗ tbPt c tbM1 t1 ∗ tbPt c tbM2 t2 ∗ tbPt c tbM3 t3 ∗ tbPt c tbM4 t4 ∗ tbPt c tbM5 t5
        ∗ (iprop(owns (c : Thread nD τ) arg7 fullShare x7 ∗ owns (c : Thread nD τ) arg8 fullShare x8 ∗ owns (c : Thread nD τ) arg9 fullShare x9
          ∗ (∃ d, owns (c : Thread nD τ) arg10 fullShare d) ∗ (∃ d, owns (c : Thread nD τ) scW fullShare d) ∗ (∃ d, owns (c : Thread nD τ) scD fullShare d)
          ∗ tbPt c tbM0 t0 ∗ tbPt c tbM1 t1 ∗ tbPt c tbM2 t2 ∗ tbPt c tbM3 t3 ∗ tbPt c tbM4 t4 ∗ tbPt c tbM5 t5) -∗ K ⟨⟩))
      ⊢ wp frame (wpE (defs₀ (F := F)) Variants.none c none) E
          (cc0_grouped_dgrad i tbM0 htbM0 tbM1 htbM1 tbM2 htbM2 tbM3 htbM3 tbM4 htbM4 tbM5 htbM5 arg7 harg7 arg8 harg8 arg9 harg9 arg10 harg10 scW (Memref.isWhole_whole _) scD (Memref.isWhole_whole _)) K := by
  simp only [cc0_grouped_dgrad_eq_skeleton]; unfold cc0_grouped_dgrad_skel
  unfold owns
  iintro ⟨⟨%f7, %hf7, H7⟩, ⟨%f8, %hf8, H8⟩, ⟨%f9, %hf9, H9⟩, ⟨%d10, %f10, -, H10⟩, ⟨%d11, %f11, -, H11⟩, ⟨%d12, %f12, -, H12⟩, T0, T1, T2, T3, T4, T5, Hk⟩
  obtain rfl := harg7.eq_unread hf7
  obtain rfl := harg8.eq_unread hf8
  obtain rfl := harg9.eq_unread hf9
  sl_exec
  sl_step
  iapply Hk
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [T0]; · iexact T0
  isplitl [T1]; · iexact T1
  isplitl [T2]; · iexact T2
  isplitl [T3]; · iexact T3
  isplitl [T4]; · iexact T4
  iexact T5

end Cert.KernelIdeal.Hand

end
-- ==== Proof.KI.Frame.lean ====
/- The frame: the kernel terminates, faults at nothing and leaves its arguments unchanged. Hand-written, untrusted. -/
module

public import proofs.«01_k».proof.Proof.KI.Ok
public import proofs.«01_k».proof.Proof.KI.RunF

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block of its array at point `t`, as the region finds the array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c)
    (hA : dat.A 0 = V m c (Pipeline.arrRef spec0 0)) (hAfter : ∀ t, dat.after 0 t = iblk m hO c 0 t) (t : Fin (cfgM m hO).N) (d) :
    dat.before 0 t d = iblk m hO c 0 t :=
  (dat.before_in_eq_fetched 0 rfl (fun _ => rfl) (fun _ _ _ => rfl) (fun t => by rw [hAfter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c)
    (hA : dat.A 1 = V m c (Pipeline.arrRef spec0 1)) (hAfter : ∀ t, dat.after 1 t = iblk m hO c 1 t) (t : Fin (cfgM m hO).N) (d) :
    dat.before 1 t d = iblk m hO c 1 t :=
  (dat.before_in_eq_fetched 1 rfl (fun _ => rfl) (fun _ _ _ => rfl) (fun t => by rw [hAfter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c)
    (hA : dat.A 2 = V m c (Pipeline.arrRef spec0 2)) (hAfter : ∀ t, dat.after 2 t = iblk m hO c 2 t) (t : Fin (cfgM m hO).N) (d) :
    dat.before 2 t d = iblk m hO c 2 t :=
  (dat.before_in_eq_fetched 2 rfl (fun _ => rfl) (fun _ _ _ => rfl) (fun t => by rw [hAfter]; unfold Dat.blockOf iblk; rw [hA]; try rfl) t d).trans
    (by unfold Dat.fetched Dat.blockOf iblk; rw [hA]; try rfl)

/-- The output window: what the kernel leaves in it is not named here. -/
def forgets0 : Fin 4 → Bool := fun w => w.val == 3

/-- The proof data: the arrays as the region finds them, each input's buffer at its block, the output unnamed, the scratch
    at some contents and the tables held. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
/-- An input's staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d

theorem after0_1 (hO : Ok m) (c : Dev nD) (t : Fin (cfgM m hO).N) : (dats m hO 0 c).after 1 t = iblk m hO c 1 t := by dsimp only [dats]; try rfl
/-- An input's staging buffer holds its block at every point, fetched there or not. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

theorem after0_2 (hO : Ok m) (c : Dev nD) (t : Fin (cfgM m hO).N) : (dats m hO 0 c).after 2 t = iblk m hO c 2 t := by dsimp only [dats]; try rfl
/-- An input's staging buffer holds its block at every point, fetched there or not. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare d))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ (∃ d, owns (c : Thread nD τ) (ms3 m hO t) fullShare d))

/-- The body at any point of the grid. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT_eq, PhiA_eq]
  iintro ⟨⟨⟨⟨HW, HD⟩, Hg⟩, T0, T1, T2, T3, T4, T5⟩, Ho, ⟨%d0, H0⟩, ⟨%d1, H1⟩, ⟨%d2, H2⟩, ⟨%d3, H3⟩⟩
  iapply (runF c (grid0.coords t) _ _ _ _ _ _ _ _ (iblk m hO c 0 t) (iblk m hO c 1 t) (iblk m hO c 2 t)
    (tbl m 0) (tbl m 1) (tbl m 2) (tbl m 3) (tbl m 4) (tbl m 5) Set.univ _)
  isplitl [H0]; · iexact H0
  isplitl [H1]; · iexact H1
  isplitl [H2]; · iexact H2
  isplitl [H3]; · iexists _; iexact H3
  isplitl [HW]; · iexact HW
  isplitl [HD]; · iexact HD
  isplitl [T0]; · iexact T0
  isplitl [T1]; · iexact T1
  isplitl [T2]; · iexact T2
  isplitl [T3]; · iexact T3
  isplitl [T4]; · iexact T4
  isplitl [T5]; · iexact T5
  iintro ⟨H0, H1, H2, H3, HW, HD, T0, T1, T2, T3, T4, T5⟩
  isplitl [HW HD Hg T0 T1 T2 T3 T4 T5]
  · isplitl [HW HD Hg]
    · isplitl [HW HD]
      · isplitl [HW]
        · iexact HW
        iexact HD
      iexact Hg
    isplitl [T0]; · iexact T0
    isplitl [T1]; · iexact T1
    isplitl [T2]; · iexact T2
    isplitl [T3]; · iexact T3
    isplitl [T4]; · iexact T4
    iexact T5
  isplitl [Ho]; · iexact Ho
  isplitl [H0]; · iexact H0
  isplitl [H1]; · iexact H1
  isplitl [H2]; · iexact H2
  iexact H3

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- A buffer of the core that is no array of the pipeline ends as the region found it. -/
theorem frame_of (hO : Ok m) (rd : (c : Dev nD) → RDat τ (Elt F) Unit ℕ (UR sig nD τ) ℕ (cfgM m hO) c) (hA : ∀ c w, (rd c).A w = V m c (Pipeline.arrRef spec0 w))
    (r : _) (h : Pipeline.RDat.FramePost ((Pipeline.pin pcfgs fun _ => adm m hO) 0) rd (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · exact (RDat.FramePost.arr_in h c 0 rfl).trans ((hA c 0).trans (V_arg m c main_arg0 (.inl rfl)))
  · exact ((h c).2 main_arg1 (by decide : main_arg1 ∈ Pipeline.restRefs sig spec0)).trans (V_arg m c main_arg1 (.inr (.inl rfl)))
  · exact (RDat.FramePost.arr_in h c 1 rfl).trans ((hA c 1).trans (V_arg m c main_arg2 (.inr (.inr (.inl rfl)))))
  · exact ((h c).2 main_arg3 (by decide : main_arg3 ∈ Pipeline.restRefs sig spec0)).trans (V_arg m c main_arg3 (.inr (.inr (.inr rfl))))

/-- Every run terminates with the arguments as launched and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => frame_of m hO _ (A_eq m hO) r h.1 c, h.2⟩) (run_main_quiescent m ρ hO)

end Cert.KernelIdeal.Hand

end
-- ==== Proof.KI.Blocks.lean ====
/- What the body writes, block by block: the dequantised weights and the requantised rows. Hand-written, untrusted. -/
module

public import proofs.«01_k».proof.Proof.KI.Ok
public import Idealize.ShloMosaic.Lib.ValueLayoutCasts
public import Idealize.ShloMosaic.Lib.WholeRead
public import Idealize.ShloMosaic.Lib.Pipeline.ValueKit.Tiles
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

/-- The weights a group's first visit leaves: each code times the scale of its row. -/
def wNew (x8 : Vec F S1x2048x3072 .fp8e4m3) (x9 : Vec F S1x2048x1 .f32) : Vec F S2048x3072 .bf16 := fun y =>
  FloatOps.mulf (FloatOps.extf .bf16 bitsLt_fp8e4m3_bf16 (x8 (ix3 0 (y 0) (y 1)))) (FloatOps.truncf .bf16 bitsLt_bf16_f32 (x9 (ix3 0 (y 0) 0)))

/-- One block of 128 columns, quantised and read back, as the body computes it. -/
def deqBlock (v : Vec F S512x128 .bf16) : Vec F S512x128 .bf16 :=
  k0_pay14 v (k0_pay10 v) (k0_pay11 v) (k0_pay12 v) k0_pay13

/-- The rows requantised: column `j` from the block of 128 columns it lies in. -/
def dNew (x7 : Vec F S512x3072 .bf16) : Vec F S512x3072 .bf16 := fun y =>
  deqBlock (fun z : S512x128.Idx => x7 (ix2 (z 0) ⟨128 * ((y 1).val / 128) + (z 1).val, by have := (y 1).isLt; have := (z 1).isLt; simp at *; omega⟩))
    (ix2 (y 0) ⟨(y 1).val % 128, Nat.mod_lt _ (by decide)⟩)

/-- What one run of the body leaves in the output block and in the weights' scratch, from what it finds. -/
structure BodyRel (x7 : Vec F S512x3072 .bf16) (x8 : Vec F S1x2048x3072 .fp8e4m3) (x9 : Vec F S1x2048x1 .f32)
    (x10 : Vec F S512x2048 .bf16) (x11 : Vec F S2048x3072 .bf16) (a2 a3 a4 a5 : BitVec 32)
    (y10 : Vec F S512x2048 .bf16) (y11 : Vec F S2048x3072 .bf16) : Prop where
  w_new : a5 = 1#32 → a4 = 1#32 → y11 = wNew x8 x9
  w_old : ¬ (a5 = 1#32 ∧ a4 = 1#32) → y11 = x11
  out_new : a5 = 1#32 → y10 = k0_pay3 (k0_pay134 (dNew x7) y11) (k0_pay135 x10) (k0_pay136 (F := F) a2 a3)
  out_old : ¬ a5 = 1#32 → y10 = x10

theorem eq_one_iff (a : BitVec 32) : Scalar.cmpi .eq a 1#32 = 1#1 ↔ a = 1#32 := by
  show BitVec.ofBool (a == 1#32) = 1#1 ↔ _
  by_cases h : a = 1#32
  · subst h; decide
  · have : (a == 1#32) = false := by simpa using h
    rw [this]; exact ⟨fun h => absurd h (by decide), fun h' => absurd h' h⟩

theorem first_iff (a4 a5 : BitVec 32) :
    Scalar.cmpi .ne (Scalar.extui (Scalar.andi (Scalar.cmpi .eq a5 1#32) (Scalar.cmpi .eq a4 1#32)) : BitVec 32) 0#32 = 1#1 ↔ a5 = 1#32 ∧ a4 = 1#32 := by
  rw [← eq_one_iff a4, ← eq_one_iff a5]
  generalize Scalar.cmpi .eq a5 1#32 = p
  generalize Scalar.cmpi .eq a4 1#32 = q
  revert p q; decide

theorem live_iff (a5 : BitVec 32) : k0_cond2 a5 = 1#1 ↔ a5 = 1#32 := by
  rw [← eq_one_iff a5]
  unfold k0_cond2
  simp only []
  generalize Scalar.cmpi .eq a5 1#32 = p
  revert p; decide

/-- One chunk of 256 rows of the weights. -/
theorem w_piece (x8 : Vec F S1x2048x3072 .fp8e4m3) (x9 : Vec F S1x2048x1 .f32) (off : ℕ) (i9 : ∀ a, ![0, off, 0] a + S1x256x1.size a ≤ S1x2048x1.size a)
    (i8 : ∀ a, ![0, off, 0] a + S1x256x3072.size a ≤ S1x2048x3072.size a) (iw : ∀ a, ![off, 0] a + S256x3072.size a ≤ S2048x3072.size a)
    (x : S256x3072.Idx) :
    k0_pay4 (View.ld x9 (Rect.unit (s := S1x2048x1) ![0, off, 0] S1x256x1.size i9)) (View.ld x8 (Rect.unit (s := S1x2048x3072) ![0, off, 0] S1x256x3072.size i8)) x
      = wNew x8 x9 ((Rect.unit (s := S2048x3072) ![off, 0] S256x3072.size iw).emb x) := by
  obtain ⟨r, c, rfl⟩ : ∃ r c, x = ix2 r c := ⟨x 0, x 1, eq_ix2 x⟩
  unfold k0_pay4 wNew
  simp only [shapeCast_self]
  have e1 : ∀ (v : Vec F S1x256x3072 .fp8e4m3), shapeCast S256x3072 v shapeCasts_S1x256x3072_S256x3072 (ix2 r c) = v (ix3 (0 : Fin 1) r c) := fun v =>
    shapeCast_1ab_ab_apply v _ r c
  have e2 : ∀ (v : Vec F S1x256x1 .f32), shapeCast S256x1 v shapeCasts_S1x256x1_S256x1 (ix2 r (0 : Fin 1)) = v (ix3 (0 : Fin 1) r (0 : Fin 1)) := fun v =>
    shapeCast_1ab_ab_apply v _ r 0
  have e3 : ∀ (v : Vec F S256x1 .bf16), broadcastTo S256x3072 v broadcasts_S256x1_S256x3072 (ix2 r c) = v (ix2 r (0 : Fin 1)) := fun v =>
    broadcastTo_apply v _ _ _ (fun a => by match a with | 0 => rfl | 1 => rfl)
  show FloatOps.mulf (FloatOps.extf .bf16 _ (shapeCast S256x3072 _ _ (ix2 r c))) (broadcastTo S256x3072 _ _ (ix2 r c)) = _
  rw [e3, e1]
  show FloatOps.mulf _ (FloatOps.truncf .bf16 _ (shapeCast S256x1 _ _ (ix2 r (0 : Fin 1)))) = _
  rw [e2]
  have h8 : (Rect.unit (s := S1x2048x3072) ![0, off, 0] S1x256x3072.size i8).idx (ix3 (0 : Fin 1) r c)
      = (ix3 (0 : Fin 1) ((Rect.unit (s := S2048x3072) ![off, 0] S256x3072.size iw).emb (ix2 r c) 0) ((Rect.unit (s := S2048x3072) ![off, 0] S256x3072.size iw).emb (ix2 r c) 1) : S1x2048x3072.Idx) := by
    funext a
    match a with
    | 0 => rfl
    | 1 => rfl
    | 2 => rfl
  have h9 : (Rect.unit (s := S1x2048x1) ![0, off, 0] S1x256x1.size i9).idx (ix3 (0 : Fin 1) r (0 : Fin 1))
      = (ix3 (0 : Fin 1) ((Rect.unit (s := S2048x3072) ![off, 0] S256x3072.size iw).emb (ix2 r c) 0) (0 : Fin 1) : S1x2048x1.Idx) := by
    funext a
    match a with
    | 0 => rfl
    | 1 => rfl
    | 2 => rfl
  exact congrArg₂ (fun a b => FloatOps.mulf (FloatOps.extf .bf16 bitsLt_fp8e4m3_bf16 a) (FloatOps.truncf .bf16 bitsLt_bf16_f32 b))
    (congrArg x8 h8) (congrArg x9 h9)

/-- One block of 128 columns of the rows. -/
theorem d_piece (x7 : Vec F S512x3072 .bf16) (k off : ℕ) (hk : off = 128 * k) (i7 : ∀ a, ![0, off] a + S512x128.size a ≤ S512x3072.size a) (x : S512x128.Idx) :
    deqBlock (View.ld x7 (Rect.unit (s := S512x3072) ![0, off] S512x128.size i7)) x
      = dNew x7 ((Rect.unit (s := S512x3072) ![0, off] S512x128.size i7).emb x) := by
  subst hk
  have hlt : (x 1).val < 128 := (x 1).isLt
  have h0 : (Rect.unit (s := S512x3072) ![0, 128 * k] S512x128.size i7).emb x 0 = x 0 := by
    apply Fin.ext; rw [Rect.emb_apply]; show 0 + 1 * (x 0).val = _; omega
  have h1 : ((Rect.unit (s := S512x3072) ![0, 128 * k] S512x128.size i7).emb x 1).val = 128 * k + (x 1).val := by
    rw [Rect.emb_apply]; show 128 * k + 1 * (x 1).val = _; omega
  unfold dNew
  have e1 : (ix2 ((Rect.unit (s := S512x3072) ![0, 128 * k] S512x128.size i7).emb x 0) ⟨((Rect.unit (s := S512x3072) ![0, 128 * k] S512x128.size i7).emb x 1).val % 128, Nat.mod_lt _ (by decide)⟩ : S512x128.Idx) = x := by
    funext a
    match a with
    | 0 => exact h0
    | 1 => exact Fin.ext (by show _ % 128 = _; rw [h1]; omega)
  refine Eq.trans ?_ (congrArg _ e1.symm)
  refine congrFun (congrArg deqBlock ?_) x
  funext z
  have hz : (z 1).val < 128 := (z 1).isLt
  refine congrArg x7 ?_
  funext a
  match a with
  | 0 => exact Fin.ext (by show 0 + 1 * (z 0).val = (z 0).val; omega)
  | 1 => exact Fin.ext (by show 128 * k + 1 * (z 1).val = 128 * (_ / 128) + (z 1).val; rw [h1]; omega)

end Cert.KernelIdeal.Hand

end
-- ==== Proof.KI.Cells.lean ====
/- The blocks of the arrays that a grid point sees, read at their places, and when the output block is written back. Hand-written, untrusted. -/
module

public import proofs.«01_k».proof.Proof.KI.Frame
public import proofs.«01_k».proof.Proof.KI.Blocks
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Routing Idealize.ShloMosaic.ValueIdx Cert.Tables Cert.Words

variable (m : (ℓ : Loc nD τ sig) → Buf (Elt F) ℓ)

theorem N_eq (hO : Ok m) : (cfgM m hO).N = 143 := N_0

theorem gi_coords (hO : Ok m) (t : Fin (cfgM m hO).N) : (gi (grid0.coords t)).val = t.val := by
  have h : t.val < 143 := lt_of_lt_of_eq t.isLt (N_eq m hO)
  have e : ((cfgM m hO).grid.coords t (0 : Fin 1)).val = t.val / 1 % 143 := Pipeline.Grid.coords_val (G := grid0) t 0 (by decide) rfl
  refine e.trans ?_
  rw [Nat.div_one, Nat.mod_eq_of_lt h]

theorem idx0 (hc : Cov m) (hO : Ok m) (t : Fin (cfgM m hO).N) : ((cfgM m hO).win 0).index t = ![tile (szs m) (vt m t.val), 0] := by
  have e : ((cfgM m hO).win 0).index t = ![tile (szs m) (vt m (gi (grid0.coords t)).val), 0] := tr0_eq m hc (grid0.coords t)
  rw [gi_coords m hO] at e; exact e
theorem idx3 (hc : Cov m) (hO : Ok m) (t : Fin (cfgM m hO).N) : ((cfgM m hO).win 3).index t = ![tile (szs m) (vt m t.val), 0] := by
  have e : ((cfgM m hO).win 3).index t = ![tile (szs m) (vt m (gi (grid0.coords t)).val), 0] := tr3_eq m hc (grid0.coords t)
  rw [gi_coords m hO] at e; exact e
theorem idx1 (hc : Cov m) (hO : Ok m) (t : Fin (cfgM m hO).N) : ((cfgM m hO).win 1).index t = ![grp (szs m) (vt m t.val), 0, 0] := by
  have e : ((cfgM m hO).win 1).index t = ![grp (szs m) (vt m (gi (grid0.coords t)).val), 0, 0] := tr1_eq m hc (grid0.coords t)
  rw [gi_coords m hO] at e; exact e
theorem idx2 (hc : Cov m) (hO : Ok m) (t : Fin (cfgM m hO).N) : ((cfgM m hO).win 2).index t = ![grp (szs m) (vt m t.val), 0, 0] := by
  have e : ((cfgM m hO).win 2).index t = ![grp (szs m) (vt m (gi (grid0.coords t)).val), 0, 0] := tr2_eq m hc (grid0.coords t)
  rw [gi_coords m hO] at e; exact e

/-- The rows' array, the weight codes and their scales, as launched. -/
abbrev dyA (c : Dev nD) : Vec F S65536x3072 .bf16 := m ((c : Thread nD τ).loc main_arg0)
abbrev wA (c : Dev nD) : Vec F S16x2048x3072 .fp8e4m3 := m ((c : Thread nD τ).loc main_arg2)
abbrev sA (c : Dev nD) : Vec F S16x2048 .f32 := m ((c : Thread nD τ).loc main_arg3)

/-- A point's rows are the rows of its tile. -/
theorem cell0 (hc : Cov m) (hO : Ok m) (c : Dev nD) (t : Fin (cfgM m hO).N) (r : Fin 512) (k : Fin 3072) (hb : 512 * tile (szs m) (vt m t.val) + r.val < 65536) :
    (iblk m hO c 0 t : Vec F S512x3072 .bf16) (ix2 r k) = dyA m c (ix2 ⟨512 * tile (szs m) (vt m t.val) + r.val, hb⟩ k) := by
  have hix := idx0 m hc hO t
  have e : (iblk m hO c 0 t : Vec F S512x3072 .bf16) (ix2 r k)
      = (V m c main_arg0 : Vec F S65536x3072 .bf16) ((((cfgM m hO).win 0).blk t).view.emb (ix2 r k)) := rfl
  rw [e, V_arg m c main_arg0 (.inl rfl)]
  refine congrArg (dyA m c) ?_
  funext a
  refine Fin.ext ((Pipeline.Window.rect_emb_val ((cfgM m hO).win 0) t (ix2 r k) a rfl).trans ?_)
  rw [hix]
  match a with
  | ⟨0, _⟩ => show tile (szs m) (vt m t.val) * 512 + r.val = 512 * tile (szs m) (vt m t.val) + r.val; omega
  | ⟨1, _⟩ => show 0 * 3072 + k.val = k.val; omega

/-- A point's weight codes are those of its group, -/
theorem cell1 (hc : Cov m) (hO : Ok m) (c : Dev nD) (t : Fin (cfgM m hO).N) (a : Fin 2048) (k : Fin 3072) (hg : grp (szs m) (vt m t.val) < 16) :
    (iblk m hO c 1 t : Vec F S1x2048x3072 .fp8e4m3) (ix3 (0 : Fin 1) a k) = wA m c (ix3 ⟨grp (szs m) (vt m t.val), hg⟩ a k) := by
  have hix := idx1 m hc hO t
  have e : (iblk m hO c 1 t : Vec F S1x2048x3072 .fp8e4m3) (ix3 (0 : Fin 1) a k)
      = (V m c main_arg2 : Vec F S16x2048x3072 .fp8e4m3) ((((cfgM m hO).win 1).blk t).view.emb (ix3 (0 : Fin 1) a k)) := rfl
  rw [e, V_arg m c main_arg2 (.inr (.inr (.inl rfl)))]
  refine congrArg (wA m c) ?_
  funext b
  refine Fin.ext ((Pipeline.Window.rect_emb_val ((cfgM m hO).win 1) t (ix3 (0 : Fin 1) a k) b rfl).trans ?_)
  rw [hix]
  match b with
  | ⟨0, _⟩ => show grp (szs m) (vt m t.val) * 1 + 0 = grp (szs m) (vt m t.val); omega
  | ⟨1, _⟩ => show 0 * 2048 + a.val = a.val; omega
  | ⟨2, _⟩ => show 0 * 3072 + k.val = k.val; omega

/-- and so are its scales. -/
theorem cell2 (hc : Cov m) (hO : Ok m) (c : Dev nD) (t : Fin (cfgM m hO).N) (a : Fin 2048) (hg : grp (szs m) (vt m t.val) < 16) :
    (iblk m hO c 2 t : Vec F S1x2048x1 .f32) (ix3 (0 : Fin 1) a (0 : Fin 1)) = sA m c (ix2 ⟨grp (szs m) (vt m t.val), hg⟩ a) := by
  have hix := idx2 m hc hO t
  have e : (iblk m hO c 2 t : Vec F S1x2048x1 .f32) (ix3 (0 : Fin 1) a (0 : Fin 1))
      = (V m c main_v82 : Vec F S16x2048x1 .f32) ((((cfgM m hO).win 2).blk t).view.emb (ix3 (0 : Fin 1) a (0 : Fin 1))) := rfl
  have ee : (((cfgM m hO).win 2).blk t).view.emb (ix3 (0 : Fin 1) a (0 : Fin 1)) = (ix3 ⟨grp (szs m) (vt m t.val), hg⟩ a (0 : Fin 1) : S16x2048x1.Idx) := by
    funext b
    refine Fin.ext ((Pipeline.Window.rect_emb_val ((cfgM m hO).win 2) t (ix3 (0 : Fin 1) a (0 : Fin 1)) b rfl).trans ?_)
    rw [hix]
    match b with
    | ⟨0, _⟩ => show grp (szs m) (vt m t.val) * 1 + 0 = grp (szs m) (vt m t.val); omega
    | ⟨1, _⟩ => show 0 * 2048 + a.val = a.val; omega
    | ⟨2, _⟩ => rfl
  rw [e, V_v82]
  refine (congrArg _ ee).trans ?_
  refine (broadcastInDim_apply _ _ _ _ (ix2 ⟨grp (szs m) (vt m t.val), hg⟩ a) fun b => by match b with | ⟨0, _⟩ => rfl | ⟨1, _⟩ => rfl).trans ?_
  rfl

/-- The dequantised weights of group `g`. -/
def wG (c : Dev nD) (g : Fin 16) : Vec F S2048x3072 .bf16 := fun y =>
  FloatOps.mulf (FloatOps.extf .bf16 bitsLt_fp8e4m3_bf16 (wA m c (ix3 g (y 0) (y 1)))) (FloatOps.truncf .bf16 bitsLt_bf16_f32 (sA m c (ix2 g (y 0))))

theorem wNew_eq (hc : Cov m) (hO : Ok m) (c : Dev nD) (t : Fin (cfgM m hO).N) (hg : grp (szs m) (vt m t.val) < 16) :
    wNew (iblk m hO c 1 t : Vec F S1x2048x3072 .fp8e4m3) (iblk m hO c 2 t : Vec F S1x2048x1 .f32) = wG m c ⟨grp (szs m) (vt m t.val), hg⟩ := by
  funext y
  unfold wNew wG
  rw [cell1 m hc hO c t (y 0) (y 1) hg, cell2 m hc hO c t (y 0) hg]

/-- The output block's place in the output array. -/
theorem emb3 (hc : Cov m) (hO : Ok m) (t : Fin (cfgM m hO).N) (r : Fin 512) (k : Fin 2048) (hb : 512 * tile (szs m) (vt m t.val) + r.val < 65536) :
    (((cfgM m hO).win 3).blk t).view.emb (ix2 r k) = (ix2 ⟨512 * tile (szs m) (vt m t.val) + r.val, hb⟩ k : S65536x2048.Idx) := by
  have hix := idx3 m hc hO t
  funext a
  refine Fin.ext ((Pipeline.Window.rect_emb_val ((cfgM m hO).win 3) t (ix2 r k) a rfl).trans ?_)
  rw [hix]
  match a with
  | ⟨0, _⟩ => show tile (szs m) (vt m t.val) * 512 + r.val = 512 * tile (szs m) (vt m t.val) + r.val; omega
  | ⟨1, _⟩ => show 0 * 2048 + k.val = k.val; omega

/-- The output block is written back at the last point and before a new tile begins. -/
theorem flush3 (hc : Cov m) (hO : Ok m) (t : Fin (cfgM m hO).N) :
    ((cfgM m hO).win 3).flush t = true ↔ t.val = 142 ∨ t.val < 142 ∧ tile (szs m) (vt m (t.val + 1)) ≠ tile (szs m) (vt m t.val) := by
  have hN := N_eq m hO
  have ht := t.isLt
  rw [Pipeline.Window.flush_out ((cfgM m hO).win 3) rfl t]
  constructor
  · rintro (h | ⟨h, hne⟩)
    · have h' : t.val + 1 = (cfgM m hO).N := h
      left; omega
    · have h' : t.val + 1 < (cfgM m hO).N := h
      right; refine ⟨by omega, fun e => hne ?_⟩
      rw [idx3 m hc hO, idx3 m hc hO]
      show ![tile (szs m) (vt m (t.val + 1)), 0] = _
      rw [e]
  · rintro (h | ⟨h, hne⟩)
    · left; show t.val + 1 = (cfgM m hO).N; omega
    · right
      have h' : t.val + 1 < (cfgM m hO).N := by omega
      refine ⟨h', fun e => hne ?_⟩
      rw [idx3 m hc hO, idx3 m hc hO] at e
      exact congrFun e 0

end Cert.KernelIdeal.Hand

end
-- ==== Proof.Scale.lean ====
/- The scale of a block of 128 values, over the extended reals: the kernel finds the power of two by comparisons, the
   reference by a logarithm; here they are one number. Hand-written, untrusted. -/
module

public import Idealize.ShloMosaic.PureOps.Ideal.Laws
public import Mathlib.Analysis.SpecialFunctions.Log.Basic
public import Mathlib.Algebra.Order.Floor.Ring

@[expose] public section

noncomputable section

namespace Cert.Scale

open Idealize.ShloMosaic

/-! ## The literals -/

theorem lit_1 : Ideal.ofBits .f32 0x3F800000#32 = (((2 : ℝ) ^ (0 : ℤ) : ℝ) : EReal) := by
  simp [Ideal.ofBits, Ideal.ieee, -EReal.coe_mul, -EReal.coe_pow]; norm_num [-EReal.coe_mul, -EReal.coe_pow]
theorem lit_min : Ideal.ofBits .f32 0x00800000#32 = (((2 : ℝ) ^ (-126 : ℤ) : ℝ) : EReal) := by
  simp [Ideal.ofBits, Ideal.ieee, -EReal.coe_mul, -EReal.coe_pow]; norm_num [-EReal.coe_mul, -EReal.coe_pow]
theorem lit_64 : Ideal.ofBits .f32 0x5F800000#32 = (((2 : ℝ) ^ (64 : ℤ) : ℝ) : EReal) := by
  simp [Ideal.ofBits, Ideal.ieee, -EReal.coe_mul, -EReal.coe_pow]; norm_num [-EReal.coe_mul, -EReal.coe_pow]
theorem lit_32 : Ideal.ofBits .f32 0x4F800000#32 = (((2 : ℝ) ^ (32 : ℤ) : ℝ) : EReal) := by
  simp [Ideal.ofBits, Ideal.ieee, -EReal.coe_mul, -EReal.coe_pow]; norm_num [-EReal.coe_mul, -EReal.coe_pow]
theorem lit_16 : Ideal.ofBits .f32 0x47800000#32 = (((2 : ℝ) ^ (16 : ℤ) : ℝ) : EReal) := by
  simp [Ideal.ofBits, Ideal.ieee, -EReal.coe_mul, -EReal.coe_pow]; norm_num [-EReal.coe_mul, -EReal.coe_pow]
theorem lit_8 : Ideal.ofBits .f32 0x43800000#32 = (((2 : ℝ) ^ (8 : ℤ) : ℝ) : EReal) := by
  simp [Ideal.ofBits, Ideal.ieee, -EReal.coe_mul, -EReal.coe_pow]; norm_num [-EReal.coe_mul, -EReal.coe_pow]
theorem lit_4 : Ideal.ofBits .f32 0x41800000#32 = (((2 : ℝ) ^ (4 : ℤ) : ℝ) : EReal) := by
  simp [Ideal.ofBits, Ideal.ieee, -EReal.coe_mul, -EReal.coe_pow]; norm_num [-EReal.coe_mul, -EReal.coe_pow]
theorem lit_2 : Ideal.ofBits .f32 0x40800000#32 = (((2 : ℝ) ^ (2 : ℤ) : ℝ) : EReal) := by
  simp [Ideal.ofBits, Ideal.ieee, -EReal.coe_mul, -EReal.coe_pow]; norm_num [-EReal.coe_mul, -EReal.coe_pow]
theorem lit_two : Ideal.ofBits .f32 0x40000000#32 = (((2 : ℝ) ^ (1 : ℤ) : ℝ) : EReal) := by
  simp [Ideal.ofBits, Ideal.ieee, -EReal.coe_mul, -EReal.coe_pow]; norm_num [-EReal.coe_mul, -EReal.coe_pow]
theorem lit_127 : Ideal.ofBits .f32 0x42FE0000#32 = ((127 : ℝ) : EReal) := by
  simp [Ideal.ofBits, Ideal.ieee, -EReal.coe_mul, -EReal.coe_pow]; norm_num [-EReal.coe_mul, -EReal.coe_pow]
theorem lit_inf : Ideal.ofBits .f32 0x7F800000#32 = ⊤ := by simp [Ideal.ofBits, Ideal.ieee]

/-! ## The two scales -/

/-- One step of the kernel's search: the power times `w` if the ratio reaches it. -/
def step (r : EReal) (w : BitVec 32) (p : EReal) : EReal :=
  Scalar.select (Ideal.cmp .oge r (p * Ideal.ofBits .f32 w)) (p * Ideal.ofBits .f32 w) p

/-- Where the kernel's search starts. -/
def start (r : EReal) : EReal :=
  Scalar.select (Ideal.cmp .oge r (Ideal.ofBits .f32 0x3F800000#32)) (Ideal.ofBits .f32 0x3F800000#32) (Ideal.ofBits .f32 0x00800000#32)

/-- The power the kernel finds. -/
def power (r : EReal) : EReal :=
  step r 0x40000000#32 (step r 0x40800000#32 (step r 0x41800000#32 (step r 0x43800000#32 (step r 0x47800000#32 (step r 0x4F800000#32 (step r 0x5F800000#32 (start r)))))))

/-- Whether the ratio is a normal number. -/
def normal (r : EReal) : BitVec 1 :=
  IntOp.andi (Ideal.cmp .oge r (Ideal.ofBits .f32 0x00800000#32)) (Ideal.cmp .olt r (Ideal.ofBits .f32 0x7F800000#32))

/-- The kernel's scale. -/
def kScale (r : EReal) : EReal :=
  Scalar.select (IntOp.xori (normal r) 1#1) (Ideal.ofBits .f32 0x3F800000#32) (power r * Ideal.ofBits .f32 0x40000000#32)

/-- The reference's exponent. -/
def exponent (r : EReal) : EReal :=
  min (Ideal.liftRound Int.floor (Ideal.div (Ideal.log r) (Ideal.log (Ideal.ofBits .f32 0x40000000#32)))) (Ideal.ofBits .f32 0x42FE0000#32)
    + Ideal.ofBits .f32 0x3F800000#32

/-- The reference's scale. -/
def rScale (r : EReal) : EReal :=
  Scalar.select (normal r) (Ideal.pow (Ideal.ofBits .f32 0x40000000#32) (exponent r)) (Ideal.ofBits .f32 0x3F800000#32)

/-! ## They agree -/

theorem select_oge {α : Type} (a b : EReal) (x y : α) : Scalar.select (Ideal.cmp .oge a b) x y = if b ≤ a then x else y := by
  unfold Scalar.select Ideal.cmp
  by_cases h : b ≤ a <;> simp [h]

/-- The greatest exponent whose power of two `x` reaches. -/
def lg (x : ℝ) : ℤ := ⌊Real.log x / Real.log 2⌋

theorem le_lg {x : ℝ} (hx : 0 < x) (a : ℤ) : (2 : ℝ) ^ a ≤ x ↔ a ≤ lg x := by
  have h2 : 0 < Real.log 2 := Real.log_pos (by norm_num)
  unfold lg
  rw [Int.le_floor, le_div_iff₀ h2, ← Real.log_zpow, Real.log_le_log_iff (by positivity) hx]

theorem step_eq {x : ℝ} (hx : 0 < x) (a e : ℤ) (w : BitVec 32) (hw : Ideal.ofBits .f32 w = (((2 : ℝ) ^ e : ℝ) : EReal)) :
    step (x : EReal) w (((2 : ℝ) ^ a : ℝ) : EReal) = (((2 : ℝ) ^ (if a + e ≤ lg x then a + e else a) : ℝ) : EReal) := by
  unfold step
  rw [select_oge, hw, ← EReal.coe_mul, ← zpow_add₀ (by norm_num : (2 : ℝ) ≠ 0)]
  by_cases h : a + e ≤ lg x
  · rw [if_pos (EReal.coe_le_coe_iff.mpr ((le_lg hx _).mpr h)), if_pos h]
  · rw [if_neg (fun h' => h ((le_lg hx _).mp (EReal.coe_le_coe_iff.mp h'))), if_neg h]

theorem start_eq {x : ℝ} (hx : 0 < x) : start (x : EReal) = (((2 : ℝ) ^ (if 0 ≤ lg x then (0 : ℤ) else -126) : ℝ) : EReal) := by
  unfold start
  rw [select_oge, lit_1, lit_min]
  by_cases h : 0 ≤ lg x
  · rw [if_pos (EReal.coe_le_coe_iff.mpr ((le_lg hx _).mpr h)), if_pos h]
  · rw [if_neg (fun h' => h ((le_lg hx _).mp (EReal.coe_le_coe_iff.mp h'))), if_neg h]

/-- One step of the search on exponents: `n` is sought from `a` up, at most to `M`, with `w` values left. -/
def Sought (n M a w : ℤ) : Prop := a ≤ n ∧ a + w ≤ M + 1 ∧ (n < a + w ∨ a + w = M + 1)

theorem sought_step {n M a w s : ℤ} (hw : w = 2 * s) (hs : 0 < s) (h : Sought n M a w) : Sought n M (if a + s ≤ n then a + s else a) s := by
  obtain ⟨h1, h2, h3⟩ := h
  unfold Sought
  split_ifs with hc <;> omega

theorem sought_end {n M a : ℤ} (h : Sought n M a 1) : a = min n M := by
  obtain ⟨h1, h2, h3⟩ := h
  omega

theorem power_eq {x : ℝ} (hx : 0 < x) (hn : -126 ≤ lg x) : power (x : EReal) = (((2 : ℝ) ^ (min (lg x) 127) : ℝ) : EReal) := by
  unfold power
  rw [start_eq hx, step_eq hx _ 64 _ lit_64, step_eq hx _ 32 _ lit_32, step_eq hx _ 16 _ lit_16, step_eq hx _ 8 _ lit_8,
    step_eq hx _ 4 _ lit_4, step_eq hx _ 2 _ lit_2, step_eq hx _ 1 _ lit_two]
  generalize hn' : lg x = n at hn ⊢
  have key : ∀ a0 : ℤ, ∀ M, Sought n M a0 128 → ∀ a7, a7 = min n M → (((2 : ℝ) ^ a7 : ℝ) : EReal) = (((2 : ℝ) ^ (min n M) : ℝ) : EReal) :=
    fun _ _ _ _ h => by rw [h]
  by_cases h0 : 0 ≤ n
  · rw [if_pos h0]
    refine key 0 127 ⟨h0, by omega, by omega⟩ _ (sought_end ?_)
    exact sought_step rfl (by omega) <| sought_step rfl (by omega) <| sought_step rfl (by omega) <| sought_step rfl (by omega) <|
      sought_step rfl (by omega) <| sought_step rfl (by omega) <| sought_step (w := 128) rfl (by omega) ⟨h0, by omega, by omega⟩
  · rw [if_neg h0]
    have e : min n 127 = min n 1 := by omega
    rw [e]
    refine key (-126) 1 ⟨hn, by omega, by omega⟩ _ (sought_end ?_)
    exact sought_step rfl (by omega) <| sought_step rfl (by omega) <| sought_step rfl (by omega) <| sought_step rfl (by omega) <|
      sought_step rfl (by omega) <| sought_step rfl (by omega) <| sought_step (w := 128) rfl (by omega) ⟨hn, by omega, by omega⟩

theorem exponent_eq {x : ℝ} (hx : 0 < x) : exponent (x : EReal) = (((min (lg x) 127 + 1 : ℤ) : ℝ) : EReal) := by
  have h2 : 0 < Real.log 2 := Real.log_pos (by norm_num)
  have e1 : Ideal.log (x : EReal) = ((Real.log x : ℝ) : EReal) := if_neg (not_le.mpr hx)
  have e2 : Ideal.log (Ideal.ofBits .f32 0x40000000#32) = ((Real.log 2 : ℝ) : EReal) := by
    rw [lit_two, zpow_one]; exact if_neg (by norm_num)
  unfold exponent
  rw [e1, e2, lit_127, lit_1]
  have e3 : Ideal.div ((Real.log x : ℝ) : EReal) ((Real.log 2 : ℝ) : EReal) = ((Real.log x / Real.log 2 : ℝ) : EReal) := by
    unfold Ideal.div
    rw [if_neg (by rw [← EReal.coe_zero, EReal.coe_eq_coe_iff]; exact ne_of_gt h2), ← EReal.coe_inv, ← EReal.coe_mul, div_eq_mul_inv]
  rw [e3]
  have e4 : Ideal.liftRound Int.floor ((Real.log x / Real.log 2 : ℝ) : EReal) = ((lg x : ℝ) : EReal) := rfl
  rw [e4, zpow_zero, ← EReal.coe_strictMono.monotone.map_min, ← EReal.coe_add]
  congr 1
  push_cast
  rfl

theorem normal_iff (r : EReal) : normal r = 1#1 ↔ (((2 : ℝ) ^ (-126 : ℤ) : ℝ) : EReal) ≤ r ∧ r < ⊤ := by
  unfold normal Ideal.cmp
  rw [lit_min, lit_inf]
  generalize (((2 : ℝ) ^ (-126 : ℤ) : ℝ) : EReal) = a
  by_cases h1 : a ≤ r <;> by_cases h2 : r < ⊤ <;> simp only [h1, h2, IntOp.andi] <;> decide

/-- The two scales are one. -/
theorem kScale_eq (r : EReal) : kScale r = rScale r := by
  unfold kScale rScale
  by_cases h : normal r = 1#1
  · rw [h]
    show Scalar.select (1#1 ^^^ 1#1) _ _ = Scalar.select 1#1 _ _
    unfold Scalar.select
    rw [if_neg (by decide), if_pos (show (1#1 : BitVec 1) = 1 from rfl)]
    obtain ⟨hlo, hhi⟩ := (normal_iff r).mp h
    induction r with
    | bot => exact absurd hlo (by simp)
    | top => exact absurd hhi (lt_irrefl _)
    | coe x =>
      rw [EReal.coe_le_coe_iff] at hlo
      have hx : 0 < x := lt_of_lt_of_le (by positivity) hlo
      have hn := (le_lg hx _).mp hlo
      rw [power_eq hx hn, exponent_eq hx, lit_two, ← EReal.coe_mul, ← zpow_add₀ (by norm_num : (2 : ℝ) ≠ 0), Ideal.pow_coe_coe, zpow_one]
      congr 1
      exact (Real.rpow_intCast 2 _).symm
  · have h0 : normal r = 0#1 := by revert h; generalize normal r = b; revert b; decide
    rw [h0]
    show Scalar.select (0#1 ^^^ 1#1) _ _ = Scalar.select 0#1 _ _
    unfold Scalar.select
    rw [if_pos (by decide), if_neg (by decide)]

/-! ## A block of 128 values, and the result -/

/-- The greatest absolute value of a block. -/
def blkmax (f : Fin 128 → EReal) : EReal := Finset.univ.fold max ⊥ fun k => max (f k) (-(f k))

/-- The ratio the scale is read off. -/
def ratio (f : Fin 128 → EReal) : EReal := blkmax f * Ideal.ofBits .f32 0x37924925#32

/-- A block quantised, at place `j`: scaled and clipped, -/
def quant (f : Fin 128 → EReal) (j : Fin 128) : EReal :=
  min (Ideal.ofBits .f32 0x47600000#32) (max (Ideal.ofBits .f32 0xC7600000#32) (f j * Ideal.div (Ideal.ofBits .f32 0x3F800000#32) (rScale (ratio f))))

/-- and read back. -/
def deq (f : Fin 128 → EReal) (j : Fin 128) : EReal := quant f j * rScale (ratio f)

/-- Column `j` of the block of 128 columns that column `k` lies in. -/
def blkcol (k : Fin 3072) (j : Fin 128) : Fin 3072 := ⟨128 * (k.val / 128) + j.val, by have := k.isLt; have := j.isLt; omega⟩

/-- Column `k`'s place in its block. -/
def blkpos (k : Fin 3072) : Fin 128 := ⟨k.val % 128, Nat.mod_lt _ (by decide)⟩

/-- A row, requantised. -/
def row (f : Fin 3072 → EReal) (k : Fin 3072) : EReal := deq (fun j => f (blkcol k j)) (blkpos k)

/-- One entry of the product of a requantised row with the dequantised weights of a group. -/
def kval (dy : Fin 3072 → EReal) (w : Fin 3072 → EReal) (s : EReal) : EReal := ∑ k : Fin 3072, row dy k * (w k * s)

end Cert.Scale

end
-- ==== Proof.KI.Vals.lean ====
/- What the body computes, over the extended reals, at each place. Hand-written, untrusted. -/
module

public import proofs.«01_k».proof.Proof.KI.Cells
public import proofs.«01_k».proof.Proof.Scale
public import Idealize.ShloMosaic.Lib.Pointwise.ElementwiseCore
public import Idealize.ShloMosaic.Lib.MatmulPlain

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx Cert.Scale

attribute [local irreducible] Ideal.ofBits

/-- Where the scale's ratio is read. -/
theorem pay10_at (v : Vec Ideal S512x128 .bf16) (r : Fin 512) :
    (k0_pay10 v : FVec Ideal S512x1 .f32) (ix2 r (0 : Fin 1)) = ratio fun k => v (ix2 r k) := by
  unfold k0_pay10 ratio blkmax
  simp only [mulf_apply, broadcast_apply, extf_apply, Ideal.mulf_def, Ideal.extf_def, Scalar.ofBits, Ideal.ofBits_def]
  generalize Ideal.ofBits .f32 0x37924925#32 = lit
  refine congrArg (fun z : EReal => z * lit) ?_
  refine (shapeCast_a_a1_apply _ _ r 0).trans ?_
  refine (Ideal.multiReduction_maximumf_single _ _ _ _ _ _).trans ?_
  have e : (FloatOps.ofBits .bf16 0xFF80#16 : Ideal .bf16) = (⊥ : EReal) := by
    show Ideal.ofBits .bf16 0xFF80#16 = ⊥
    simp [Ideal.ofBits, Ideal.ieee]
  rw [e]
  refine congrArg (Finset.univ.fold max ⊥) ?_
  funext k
  have hi : reduces_S512x128_S512.lift (ix1 r) k = (ix2 r k : S512x128.Idx) := by
    funext a
    match a with
    | ⟨0, _⟩ => rfl
    | ⟨1, _⟩ => rfl
  show (absf v : FVec Ideal S512x128 .bf16) (reduces_S512x128_S512.lift (ix1 r) k) = _
  rw [hi]
  rfl

theorem pay11_at (v : Vec Ideal S512x128 .bf16) (r : Fin 512) :
    (k0_pay11 v : IVec S512x1 1) (ix2 r (0 : Fin 1)) = IntOp.xori (normal (ratio fun k => v (ix2 r k))) 1#1 := by
  rw [← pay10_at]
  unfold normal k0_pay11
  simp only [cmpf_apply, broadcast_apply, xori_apply, andi_apply, Ideal.cmpf_def, Scalar.ofBits, Ideal.ofBits_def]
  rfl

/-- The scale that the body gives a row of a block is the reference's. -/
theorem scale_at (v : Vec Ideal S512x128 .bf16) (r : Fin 512) :
    (select (k0_pay11 v) (broadcast S512x1 (Scalar.ofBits .f32 0x3F800000#32 : Ideal .f32))
      (mulf (select (cmpf .oge (k0_pay10 v) (mulf (k0_pay12 v) k0_pay13)) (mulf (k0_pay12 v) k0_pay13) (k0_pay12 v)) (broadcast S512x1 (Scalar.ofBits .f32 0x40000000#32 : Ideal .f32)))
      : FVec Ideal S512x1 .f32) (ix2 r (0 : Fin 1)) = rScale (ratio fun k => v (ix2 r k)) := by
  rw [← kScale_eq, ← pay10_at]
  unfold kScale normal power step start k0_pay11 k0_pay12 k0_pay13
  simp only [select_apply, mulf_apply, cmpf_apply, broadcast_apply, xori_apply, andi_apply, Ideal.mulf_def, Ideal.cmpf_def, Scalar.ofBits, Ideal.ofBits_def]
  rfl

/-- A block quantised and read back, at a place. -/
theorem deqBlock_at (v : Vec Ideal S512x128 .bf16) (r : Fin 512) (j : Fin 128) :
    (deqBlock v : Vec Ideal S512x128 .bf16) (ix2 r j) = deq (fun k => v (ix2 r k)) j := by
  unfold deqBlock k0_pay14 deq quant
  simp only [shapeCast_self, mulf_apply, minimumf_apply, maximumf_apply, truncf_apply, extf_apply, broadcast_apply, Ideal.mulf_def, Ideal.minimumf_def, Ideal.maximumf_def, Ideal.extf_def, Ideal.truncf_def, Scalar.truncf, Scalar.ofBits, Ideal.ofBits_def]
  have e3 : ∀ (x : FVec Ideal S512x1 .bf16), broadcastTo S512x128 x broadcasts_S512x1_S512x128 (ix2 r j) = x (ix2 r (0 : Fin 1)) := fun x =>
    broadcastTo_apply x _ _ _ (fun a => by match a with | 0 => rfl | 1 => rfl)
  refine congrArg₂ (fun a b : EReal => a * b) ?_ ((e3 _).trans (scale_at v r))
  refine congrArg (fun z : EReal => min (Ideal.ofBits .f32 0x47600000#32) (max (Ideal.ofBits .f32 0xC7600000#32) (v (ix2 r j) * z))) ?_
  refine (e3 _).trans ?_
  exact congrArg (fun z : EReal => Ideal.div (Ideal.ofBits .f32 0x3F800000#32) z) (scale_at v r)

theorem dNew_at (x : Vec Ideal S512x3072 .bf16) (r : Fin 512) (k : Fin 3072) :
    (dNew x : Vec Ideal S512x3072 .bf16) (ix2 r k) = row (fun k => x (ix2 r k)) k :=
  deqBlock_at _ r (blkpos k)

/-- The body's product, at a place. -/
theorem prod_at (d : Vec Ideal S512x3072 .bf16) (w : Vec Ideal S2048x3072 .bf16) (r : Fin 512) (c : Fin 2048) :
    (k0_pay134 d w : FVec Ideal S512x2048 .f32) (ix2 r c) = ∑ k : Fin 3072, (d (ix2 r k) * w (ix2 c k) : EReal) := by
  refine (Ideal.matmul_transposedRhs_apply (M := 512) (K := 3072) (N := 2048) none d w _ r c).trans ?_
  show Ideal.ofBits .f32 0x00000000#32 + _ = _
  rw [Ideal.ofBits_zero_f32, zero_add]

/-- A point's rows, times the weights of a group, at a place. -/
theorem prod_val (x : Vec Ideal S512x3072 .bf16) (m : (ℓ : Loc nD τ sig) → Buf (Elt Ideal) ℓ) (c : Dev nD) (g : Fin 16) (r : Fin 512) (a : Fin 2048) :
    (k0_pay134 (dNew x) (wG m c g) : FVec Ideal S512x2048 .f32) (ix2 r a)
      = kval (fun k => x (ix2 r k)) (fun k => wA m c (ix3 g a k)) (sA m c (ix2 g a)) := by
  rw [prod_at]
  unfold kval
  refine Finset.sum_congr rfl fun k _ => ?_
  rw [dNew_at]
  rfl

/-- Which rows of the block a visit writes. -/
theorem mask_at (lo hi : ℕ) (hlo : lo ≤ 512) (hhi : hi ≤ 512) (r : Fin 512) :
    (k0_pay136 (F := Ideal) (BitVec.ofNat 32 lo) (BitVec.ofNat 32 hi)) (ix2 r (0 : Fin 1)) = BitVec.ofBool (decide (lo ≤ r.val ∧ r.val < hi)) := by
  have hr := r.isLt
  unfold k0_pay136
  simp only [shapeCast_self]
  have e : (iota .tc S512x1 32 [0] iota_S512x1_d0_w32 : IVec S512x1 32) (ix2 r (0 : Fin 1)) = BitVec.ofNat 32 r.val := by
    show BitVec.ofNat 32 (0 * 512 + r.val) = _
    rw [Nat.zero_mul, Nat.zero_add]
  show IntOp.andi (Scalar.cmpi .sge ((iota .tc S512x1 32 [0] iota_S512x1_d0_w32 : IVec S512x1 32) (ix2 r (0 : Fin 1))) (BitVec.ofNat 32 lo))
    (Scalar.cmpi .slt ((iota .tc S512x1 32 [0] iota_S512x1_d0_w32 : IVec S512x1 32) (ix2 r (0 : Fin 1))) (BitVec.ofNat 32 hi)) = _
  rw [e]
  have t : ∀ n : ℕ, n ≤ 512 → (BitVec.ofNat 32 n).toInt = n := fun n hn => by
    rw [BitVec.toInt_eq_toNat_cond, BitVec.toNat_ofNat, Nat.mod_eq_of_lt (by omega)]
    rw [if_pos (by omega)]
  have e1 : (BitVec.ofNat 32 lo).sle (BitVec.ofNat 32 r.val) = decide (lo ≤ r.val) := by
    unfold BitVec.sle; rw [t lo hlo, t r.val (by omega)]; simp
  have e2 : (BitVec.ofNat 32 r.val).slt (BitVec.ofNat 32 hi) = decide (r.val < hi) := by
    unfold BitVec.slt; rw [t hi hhi, t r.val (by omega)]; simp
  show BitVec.ofBool ((BitVec.ofNat 32 lo).sle (BitVec.ofNat 32 r.val)) &&& BitVec.ofBool ((BitVec.ofNat 32 r.val).slt (BitVec.ofNat 32 hi)) = _
  rw [e1, e2]
  by_cases h1 : lo ≤ r.val <;> by_cases h2 : r.val < hi <;> simp [h1, h2]

/-- What a live visit leaves in the output block, at a place. -/
theorem out_at (p : FVec Ideal S512x2048 .f32) (x : Vec Ideal S512x2048 .bf16) (lo hi : ℕ) (hlo : lo ≤ 512) (hhi : hi ≤ 512) (r : Fin 512) (a : Fin 2048) :
    (k0_pay3 p (k0_pay135 x) (k0_pay136 (F := Ideal) (BitVec.ofNat 32 lo) (BitVec.ofNat 32 hi)) : Vec Ideal S512x2048 .bf16) (ix2 r a)
      = if lo ≤ r.val ∧ r.val < hi then p (ix2 r a) else x (ix2 r a) := by
  unfold k0_pay3 k0_pay135
  simp only [shapeCast_self]
  show Scalar.select (broadcastTo S512x2048 (k0_pay136 (F := Ideal) (BitVec.ofNat 32 lo) (BitVec.ofNat 32 hi)) broadcasts_S512x1_S512x2048 (ix2 r a)) (p (ix2 r a)) (x (ix2 r a)) = _
  have e3 : ∀ (x : IVec S512x1 1), broadcastTo S512x2048 x broadcasts_S512x1_S512x2048 (ix2 r a) = x (ix2 r (0 : Fin 1)) := fun x =>
    broadcastTo_apply x _ _ _ (fun a => by match a with | 0 => rfl | 1 => rfl)
  rw [e3, mask_at lo hi hlo hhi r]
  unfold Scalar.select
  by_cases h : lo ≤ r.val ∧ r.val < hi
  · rw [if_pos h, decide_eq_true h]; rfl
  · rw [if_neg h, decide_eq_false h]; rfl

end Cert.KernelIdeal.Hand

end
-- ==== Proof.KI.Step.lean ====
/- One grid point, over the extended reals: what the body keeps true of the output block and of the weights' scratch. Hand-written, untrusted. -/
module

public import proofs.«01_k».proof.Proof.KI.Vals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Routing Idealize.ShloMosaic.ValueIdx Cert.Tables Cert.Words Cert.Scale

variable (m : (ℓ : Loc nD τ sig) → Buf (Elt Ideal) ℓ)

/-- Entry `a` of row `r`, requantised, times the weights of group `g`. -/
def rowV (c : Dev nD) (g : Fin 16) (r : Fin 65536) (a : Fin 2048) : EReal :=
  kval (fun k => dyA m c (ix2 r k)) (fun k => wA m c (ix3 g a k)) (sA m c (ix2 g a))

/-- What the output block holds after point `t`: every row up to the visit's last one, by the group the row belongs to. -/
def Good (c : Dev nD) (t : ℕ) (X : Vec Ideal S512x2048 .bf16) : Prop :=
  ∀ (g : Fin 16) (r : Fin 512) (hb : 512 * tile (szs m) (vt m t) + r.val < 65536), r.val < hi (szs m) (vt m t) →
    P (szs m) g.val ≤ 512 * tile (szs m) (vt m t) + r.val → 512 * tile (szs m) (vt m t) + r.val < P (szs m) (g.val + 1) →
    ∀ a : Fin 2048, X (ix2 r a) = rowV m c g ⟨512 * tile (szs m) (vt m t) + r.val, hb⟩ a

/-- What the weights' scratch holds before point `n`: nothing stated at the first, then the weights of the last point's group. -/
def Wat (c : Dev nD) (n : ℕ) (d : Vec Ideal S2048x3072 .bf16) : Prop :=
  0 < n → ∃ hg : grp (szs m) (vt m (n - 1)) < 16, d = wG m c ⟨grp (szs m) (vt m (n - 1)), hg⟩

theorem one_of {p : Prop} [Decidable p] : BitVec.ofNat 32 (if p then 1 else 0) = 1#32 ↔ p := by
  by_cases h : p
  · rw [if_pos h]; exact ⟨fun _ => h, fun _ => rfl⟩
  · rw [if_neg h]; exact ⟨fun e => absurd e (by decide), fun e => absurd e h⟩

variable (hc : Cov m)
include hc

/-- After point `t` the scratch holds the weights of the point's group. -/
theorem step_w (hO : Ok m) (c : Dev nD) (t : Fin (cfgM m hO).N) (x10 y10 : Vec Ideal S512x2048 .bf16) (x11 y11 : Vec Ideal S2048x3072 .bf16) (a2 a3 : BitVec 32)
    (hW : Wat m c t.val x11)
    (hB : BodyRel (F := Ideal) (iblk m hO c 0 t : Vec Ideal S512x3072 .bf16) (iblk m hO c 1 t : Vec Ideal S1x2048x3072 .fp8e4m3) (iblk m hO c 2 t : Vec Ideal S1x2048x1 .f32) x10 x11
      a2 a3 (BitVec.ofNat 32 (if vt m t.val = C (szs m) (grp (szs m) (vt m t.val)) then 1 else 0)) (BitVec.ofNat 32 (if t.val < C (szs m) 16 then 1 else 0)) y10 y11)
    (hg : grp (szs m) (vt m t.val) < 16) : y11 = wG m c ⟨grp (szs m) (vt m t.val), hg⟩ := by
  have hp := total_pos (szs m) hc
  by_cases hf : t.val < C (szs m) 16 ∧ vt m t.val = C (szs m) (grp (szs m) (vt m t.val))
  · rw [hB.w_new (one_of.mpr hf.1) (one_of.mpr hf.2)]
    exact wNew_eq m hc hO c t hg
  · rw [hB.w_old (fun h => hf ⟨one_of.mp h.1, one_of.mp h.2⟩)]
    have h0 : t.val ≠ 0 := fun h0 => hf (by rw [h0]; exact ⟨hp, (pt_zero (szs m) hc).2.2⟩)
    obtain ⟨u, hu⟩ := Nat.exists_eq_succ_of_ne_zero h0
    have hu' : t.val = u + 1 := hu
    have hgr : grp (szs m) (vt m t.val) = grp (szs m) (vt m u) := by
      rw [hu'] at hf ⊢
      by_cases hl : u + 1 < C (szs m) 16
      · exact pt_first (szs m) hc fun e => hf ⟨hl, e⟩
      · have : vt m (u + 1) = vt m u := by show vc (szs m) (u + 1) = vc (szs m) u; unfold vc; omega
        rw [this]
    obtain ⟨hg', e⟩ := hW (by omega)
    rw [e]
    refine congrArg (wG m c) (Fin.ext ?_)
    show grp (szs m) (vt m (t.val - 1)) = grp (szs m) (vt m t.val)
    rw [hgr, hu', Nat.add_sub_cancel]

/-- After point `t` the output block is good, if it was after the point before, where that point wrote it and kept it. -/
theorem step_good (hO : Ok m) (c : Dev nD) (t : Fin (cfgM m hO).N) (x10 y10 : Vec Ideal S512x2048 .bf16) (x11 y11 : Vec Ideal S2048x3072 .bf16)
    (hW : Wat m c t.val x11)
    (hX : ∀ u, t.val = u + 1 → tile (szs m) (vt m (u + 1)) = tile (szs m) (vt m u) → Good m c u x10)
    (hB : BodyRel (F := Ideal) (iblk m hO c 0 t : Vec Ideal S512x3072 .bf16) (iblk m hO c 1 t : Vec Ideal S1x2048x3072 .fp8e4m3) (iblk m hO c 2 t : Vec Ideal S1x2048x1 .f32) x10 x11
      (BitVec.ofNat 32 (lo (szs m) (vt m t.val))) (BitVec.ofNat 32 (hi (szs m) (vt m t.val)))
      (BitVec.ofNat 32 (if vt m t.val = C (szs m) (grp (szs m) (vt m t.val)) then 1 else 0)) (BitVec.ofNat 32 (if t.val < C (szs m) 16 then 1 else 0)) y10 y11) :
    Good m c t.val y10 := by
  have hp := total_pos (szs m) hc
  obtain ⟨v1, v2, v3, v4, v5, v6, v7⟩ := visit (szs m) hc (vc_lt (szs m) hc t.val)
  have ew := step_w m hc hO c t x10 y10 x11 y11 _ _ hW hB v1
  intro g r hb hr h1 h2 a
  have carry : ∀ u, t.val = u + 1 → tile (szs m) (vt m (u + 1)) = tile (szs m) (vt m u) → r.val < hi (szs m) (vt m u) →
      x10 (ix2 r a) = rowV m c g ⟨512 * tile (szs m) (vt m t.val) + r.val, hb⟩ a := fun u hu ht hh => by
    have hte : tile (szs m) (vt m t.val) = tile (szs m) (vt m u) := by rw [hu]; exact ht
    refine (hX u hu ht g r (by omega) hh (by omega) (by omega) a).trans ?_
    refine congrArg (fun z => rowV m c g z a) (Fin.ext ?_)
    show 512 * tile (szs m) (vt m u) + r.val = 512 * tile (szs m) (vt m t.val) + r.val
    omega
  by_cases hl : t.val < C (szs m) 16
  · rw [hB.out_new (one_of.mpr hl), out_at _ _ _ _ (by show lo (szs m) (vt m t.val) ≤ 512; exact le_trans (le_of_lt v3) v4) v4]
    by_cases hlo : lo (szs m) (vt m t.val) ≤ r.val
    · rw [if_pos ⟨hlo, hr⟩, ew]
      have hgg : g = ⟨grp (szs m) (vt m t.val), v1⟩ := by
        have v6' : P (szs m) (grp (szs m) (vt m t.val)) ≤ 512 * tile (szs m) (vt m t.val) + lo (szs m) (vt m t.val) := v6
        have v7' : 512 * tile (szs m) (vt m t.val) + hi (szs m) (vt m t.val) ≤ P (szs m) (grp (szs m) (vt m t.val) + 1) := v7
        refine Fin.ext ?_
        show g.val = grp (szs m) (vt m t.val)
        rcases Nat.lt_trichotomy g.val (grp (szs m) (vt m t.val)) with h | h | h
        · have := P_mono (szs m) (show g.val + 1 ≤ grp (szs m) (vt m t.val) from h); omega
        · exact h
        · have := P_mono (szs m) (show grp (szs m) (vt m t.val) + 1 ≤ g.val from h); omega
      subst hgg
      refine (prod_val (iblk m hO c 0 t : Vec Ideal S512x3072 .bf16) m c _ r a).trans ?_
      unfold rowV
      refine congrArg (fun z => kval z _ _) (funext fun k => ?_)
      exact cell0 m hc hO c t r k hb
    · rw [if_neg (fun h => hlo h.1)]
      have h0 : t.val ≠ 0 := fun h0 => hlo (by rw [h0]; have := (pt_zero (szs m) hc).2.1; show lo (szs m) (vc (szs m) 0) ≤ _; omega)
      obtain ⟨u, hu⟩ := Nat.exists_eq_succ_of_ne_zero h0
      have hu' : t.val = u + 1 := hu
      have hlo' : ¬ lo (szs m) (vt m (u + 1)) ≤ r.val := by rw [← hu']; exact hlo
      rcases pt_next (szs m) hc u with ⟨_, ⟨e1, e2⟩ | ⟨_, _, e2⟩⟩ | ⟨h, _⟩
      · have e2' : lo (szs m) (vt m (u + 1)) = hi (szs m) (vt m u) := e2
        exact carry u hu' e1 (by omega)
      · have e2' : lo (szs m) (vt m (u + 1)) = 0 := e2
        exact absurd (by omega) hlo'
      · exact absurd (hu' ▸ hl) h
  · rw [hB.out_old (fun h => hl (one_of.mp h))]
    have h0 : t.val ≠ 0 := fun h0 => hl (by rw [h0]; exact hp)
    obtain ⟨u, hu⟩ := Nat.exists_eq_succ_of_ne_zero h0
    have hu' : t.val = u + 1 := hu
    rcases pt_next (szs m) hc u with ⟨h, _⟩ | ⟨_, e1, e2, _⟩
    · exact absurd (hu' ▸ h) hl
    · have e2' : hi (szs m) (vt m (u + 1)) = hi (szs m) (vt m u) := e2
      exact carry u hu' e1 (by rw [← e2', ← hu']; exact hr)

omit hc

end Cert.KernelIdeal.Hand

end
-- ==== Proof.KI.RunV.lean ====
/- The kernel's body run once, with what it leaves. Hand-written, untrusted. -/
module

public import proofs.«01_k».proof.Proof.KI.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

/-- The pieces of a list of writes, one at a time. -/
theorem pieces_cons {s : Shape} {e : EltTy} {G : s.Idx → Elt F e} (r : Rect s) (w : r.shape.Idx → Elt F e) (L : List (View.Piece (Elt F) s e))
    (h1 : ∀ x, w x = G (r.emb x)) (h2 : ∀ p ∈ L, ∀ x : p.1.shape.Idx, p.2 x = G (p.1.emb x)) :
    ∀ p ∈ (⟨r, w⟩ : View.Piece (Elt F) s e) :: L, ∀ x : p.1.shape.Idx, p.2 x = G (p.1.emb x) := by
  intro p hp
  rcases List.mem_cons.mp hp with rfl | hp
  · exact h1
  · exact h2 p hp

theorem w_piece' {x8 : Vec F S1x2048x3072 .fp8e4m3} {x9 : Vec F S1x2048x1 .f32}
    {arg8 : Memref sig .tc .vmem S1x2048x3072 .fp8e4m3} (harg8 : arg8.IsWhole)
    {arg9 : Memref sig .tc .vmem S1x2048x1 .f32} (harg9 : arg9.IsWhole) (off : ℕ) (i9 : ∀ a, ![0, off, 0] a + S1x256x1.size a ≤ S1x2048x1.size a)
    (i8 : ∀ a, ![0, off, 0] a + S1x256x3072.size a ≤ S1x2048x3072.size a) (iw : ∀ a, ![off, 0] a + S256x3072.size a ≤ S2048x3072.size a)
    (x : S256x3072.Idx) :
    k0_pay4 (View.readAt (Elt F) arg9.view (Rect.unit (s := S1x2048x1) ![0, off, 0] S1x256x1.size i9).toLoadRect (harg9.unread x9))
      (View.readAt (Elt F) arg8.view (Rect.unit (s := S1x2048x3072) ![0, off, 0] S1x256x3072.size i8).toLoadRect (harg8.unread x8)) x
      = wNew x8 x9 ((Rect.unit (s := S2048x3072) ![off, 0] S256x3072.size iw).emb x) := by
  refine Eq.trans ?_ (w_piece x8 x9 off i9 i8 iw x)
  rw [View.readAt_eq_ld, View.readAt_eq_ld, harg9.read_unread, harg8.read_unread]

theorem d_piece' {x7 : Vec F S512x3072 .bf16} {arg7 : Memref sig .tc .vmem S512x3072 .bf16} (harg7 : arg7.IsWhole) (k off : ℕ) (hk : off = 128 * k)
    (i7 : ∀ a, ![0, off] a + S512x128.size a ≤ S512x3072.size a) (x : S512x128.Idx) :
    deqBlock (View.readAt (Elt F) arg7.view (Rect.unit (s := S512x3072) ![0, off] S512x128.size i7).toLoadRect (harg7.unread x7)) x
      = dNew x7 ((Rect.unit (s := S512x3072) ![0, off] S512x128.size i7).emb x) := by
  refine Eq.trans ?_ (d_piece x7 k off hk i7 x)
  rw [View.readAt_eq_ld, harg7.read_unread]

/-- Stores that are blocks of `G` leave `G` where they cover. -/
theorem canon_of_pieces' {s : Shape} {e : EltTy} (G : s.Idx → Elt F e) (L : List (View.Piece (Elt F) s e))
    (h : ∀ p ∈ L, ∀ x : p.1.shape.Idx, p.2 x = G (p.1.emb x)) (y : s.Idx) (hc : ∃ p ∈ L, y ∈ p.1.set) : View.canon L y = G y :=
  View.canon_eq_of_allAt L y _ hc fun p hp x hx => (h p hp x).trans (congrArg G hx)

/-- A load of a whole view reads its contents. -/
theorem readAt_whole {S : Shape} {e : EltTy} {κ : Kind} {sp : Space} (v : View sig κ sp S e) (off : Fin S.rank → ℕ) (h0 : ∀ a, off a = 0) (inb : ∀ a, off a + S.size a ≤ S.size a)
    (f : v.ty.Contents (Elt F)) : View.readAt (Elt F) v (Rect.unit (s := S) off S.size inb).toLoadRect f = v.read (Elt F) f := by
  rw [View.readAt_eq_ld]
  funext x
  refine congrArg (v.read (Elt F) f) ?_
  funext a
  exact Fin.ext (by show off a + 1 * (x a).val = (x a).val; rw [h0]; omega)

set_option maxHeartbeats 4000000 in
/-- The body at any grid point, with the words of the tables it reads: the inputs and the tables come back as they were,
    the output block and the scratch as `BodyRel` says. -/
theorem runV (c : Dev nD) (i : grid0.Coords)
    (arg7 : Memref sig .tc .vmem S512x3072 .bf16) (harg7 : arg7.IsWhole)
    (arg8 : Memref sig .tc .vmem S1x2048x3072 .fp8e4m3) (harg8 : arg8.IsWhole)
    (arg9 : Memref sig .tc .vmem S1x2048x1 .f32) (harg9 : arg9.IsWhole)
    (arg10 : Memref sig .tc .vmem S512x2048 .bf16) (harg10 : arg10.IsWhole)
    (x7 : Vec F S512x3072 .bf16) (x8 : Vec F S1x2048x3072 .fp8e4m3) (x9 : Vec F S1x2048x1 .f32)
    (x10 : Vec F S512x2048 .bf16) (x11 : Vec F S2048x3072 .bf16)
    (t0 : TbBuf (F := F) c tbM0) (t1 : TbBuf (F := F) c tbM1) (t2 : TbBuf (F := F) c tbM2) (t3 : TbBuf (F := F) c tbM3)
    (t4 : TbBuf (F := F) c tbM4) (t5 : TbBuf (F := F) c tbM5) (a2 a3 a4 a5 : BitVec 32)
    (h2 : View.readAt (Elt F) tbM2.view (Rect.unit (s := S143) (k0_off2 i) S1.size (k0_off2_inb i)).toLoadRect t2 (Shape.Idx.first (numel1_S1.symm ▸ Nat.one_pos)) = a2)
    (h3 : View.readAt (Elt F) tbM3.view (Rect.unit (s := S143) (k0_off2 i) S1.size (k0_off2_inb i)).toLoadRect t3 (Shape.Idx.first (numel1_S1.symm ▸ Nat.one_pos)) = a3)
    (h4 : View.readAt (Elt F) tbM4.view (Rect.unit (s := S143) (k0_off1 i) S1.size (k0_off1_inb i)).toLoadRect t4 (Shape.Idx.first (numel1_S1.symm ▸ Nat.one_pos)) = a4)
    (h5 : View.readAt (Elt F) tbM5.view (Rect.unit (s := S143) (k0_off1 i) S1.size (k0_off1_inb i)).toLoadRect t5 (Shape.Idx.first (numel1_S1.symm ▸ Nat.one_pos)) = a5)
    (E : Set ℕ) (K : PUnit → sProp 𝕄) :
    iprop(owns (c : Thread nD τ) arg7 fullShare x7 ∗ owns (c : Thread nD τ) arg8 fullShare x8 ∗ owns (c : Thread nD τ) arg9 fullShare x9
        ∗ owns (c : Thread nD τ) arg10 fullShare x10 ∗ owns (c : Thread nD τ) scW fullShare x11 ∗ (∃ d, owns (c : Thread nD τ) scD fullShare d)
        ∗ tbPt c tbM0 t0 ∗ tbPt c tbM1 t1 ∗ tbPt c tbM2 t2 ∗ tbPt c tbM3 t3 ∗ tbPt c tbM4 t4 ∗ tbPt c tbM5 t5
        ∗ (iprop(owns (c : Thread nD τ) arg7 fullShare x7 ∗ owns (c : Thread nD τ) arg8 fullShare x8 ∗ owns (c : Thread nD τ) arg9 fullShare x9
          ∗ (∃ y10 y11, ⌜BodyRel x7 x8 x9 x10 x11 a2 a3 a4 a5 y10 y11⌝ ∗ owns (c : Thread nD τ) arg10 fullShare y10 ∗ owns (c : Thread nD τ) scW fullShare y11)
          ∗ (∃ d, owns (c : Thread nD τ) scD fullShare d)
          ∗ tbPt c tbM0 t0 ∗ tbPt c tbM1 t1 ∗ tbPt c tbM2 t2 ∗ tbPt c tbM3 t3 ∗ tbPt c tbM4 t4 ∗ tbPt c tbM5 t5) -∗ K ⟨⟩))
      ⊢ wp frame (wpE (defs₀ (F := F)) Variants.none c none) E
          (cc0_grouped_dgrad i tbM0 htbM0 tbM1 htbM1 tbM2 htbM2 tbM3 htbM3 tbM4 htbM4 tbM5 htbM5 arg7 harg7 arg8 harg8 arg9 harg9 arg10 harg10 scW (Memref.isWhole_whole _) scD (Memref.isWhole_whole _)) K := by
  simp only [cc0_grouped_dgrad_eq_skeleton]; unfold cc0_grouped_dgrad_skel
  unfold owns
  iintro ⟨⟨%f7, %hf7, H7⟩, ⟨%f8, %hf8, H8⟩, ⟨%f9, %hf9, H9⟩, ⟨%f10, %hf10, H10⟩, ⟨%f11, %hf11, H11⟩, ⟨%d12, %f12, -, H12⟩, T0, T1, T2, T3, T4, T5, Hk⟩
  obtain rfl := harg7.eq_unread hf7
  obtain rfl := harg8.eq_unread hf8
  obtain rfl := harg9.eq_unread hf9
  sl_exec
  have hr : runV.sl.r c i t5 = a5 := h5
  have hr1 : runV.sl.r_1 c i t4 = a4 := h4
  have hv8 : runV.sl.v8 c i t4 t5 = 1#1 ↔ a5 = 1#32 ∧ a4 = 1#32 := by
    rw [← first_iff, ← hr, ← hr1]; exact Iff.rfl
  have hr2 : runV.sl.r c i t5 = a5 := h5
  have hl : k0_cond2 (runV.sl.r c i t5) = 1#1 ↔ a5 = 1#32 := by rw [hr]; exact live_iff a5
  have hW : runV.sl.v8 c i t4 t5 = 1#1 → True := fun _ => trivial
  sl_step
  iapply Hk
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10 H11]
  · iexists _, _
    isplitr
    swap
    · isplitl [H10]
      · iexists _; isplitr; swap; · iexact H10
        ipureintro; rfl
      · iexists _; isplitr; swap; · iexact H11
        ipureintro; rfl
    ipureintro
    have hD : runV.sl.v1667 c arg7 harg7 x7 = dNew x7 := by
      unfold runV.sl.v1667
      rw [View.readCov_eq_canon']
      funext y
      have hy : (Rect.unit (s := S512x3072) ![0, 0] S512x3072.size inb_S512x3072_S512x3072_0_0).toLoadRect.idx y = y := by
        funext a
        apply Fin.ext
        match a with
        | 0 => show 0 + 1 * (y 0).val = (y 0).val; omega
        | 1 => show 0 + 1 * (y 1).val = (y 1).val; omega
      refine (congrArg _ hy).trans ?_
      unfold runV.sl.H12_24
      refine canon_of_pieces' _ _ ?_ y (View.cover_of_tiled_head _ _ _ rfl y)
      refine pieces_cons _ _ _ (d_piece' harg7 23 _ rfl _) ?_
      refine pieces_cons _ _ _ (d_piece' harg7 22 _ rfl _) ?_
      refine pieces_cons _ _ _ (d_piece' harg7 21 _ rfl _) ?_
      refine pieces_cons _ _ _ (d_piece' harg7 20 _ rfl _) ?_
      refine pieces_cons _ _ _ (d_piece' harg7 19 _ rfl _) ?_
      refine pieces_cons _ _ _ (d_piece' harg7 18 _ rfl _) ?_
      refine pieces_cons _ _ _ (d_piece' harg7 17 _ rfl _) ?_
      refine pieces_cons _ _ _ (d_piece' harg7 16 _ rfl _) ?_
      refine pieces_cons _ _ _ (d_piece' harg7 15 _ rfl _) ?_
      refine pieces_cons _ _ _ (d_piece' harg7 14 _ rfl _) ?_
      refine pieces_cons _ _ _ (d_piece' harg7 13 _ rfl _) ?_
      refine pieces_cons _ _ _ (d_piece' harg7 12 _ rfl _) ?_
      refine pieces_cons _ _ _ (d_piece' harg7 11 _ rfl _) ?_
      refine pieces_cons _ _ _ (d_piece' harg7 10 _ rfl _) ?_
      refine pieces_cons _ _ _ (d_piece' harg7 9 _ rfl _) ?_
      refine pieces_cons _ _ _ (d_piece' harg7 8 _ rfl _) ?_
      refine pieces_cons _ _ _ (d_piece' harg7 7 _ rfl _) ?_
      refine pieces_cons _ _ _ (d_piece' harg7 6 _ rfl _) ?_
      refine pieces_cons _ _ _ (d_piece' harg7 5 _ rfl _) ?_
      refine pieces_cons _ _ _ (d_piece' harg7 4 _ rfl _) ?_
      refine pieces_cons _ _ _ (d_piece' harg7 3 _ rfl _) ?_
      refine pieces_cons _ _ _ (d_piece' harg7 2 _ rfl _) ?_
      refine pieces_cons _ _ _ (d_piece' harg7 1 _ rfl _) ?_
      refine pieces_cons _ _ _ (d_piece' harg7 0 _ rfl _) ?_
      intro p hp; exact absurd hp List.not_mem_nil
    constructor
    · intro e5 e4
      rw [dif_pos (hv8.2 ⟨e5, e4⟩)]
      funext y
      refine View.read_writes_apply_of_pieces _ _ (wNew x8 x9) _ ?_ y (View.cover_of_tiled_head _ _ _ rfl y)
      iterate 8 refine pieces_cons _ _ _ (w_piece' harg8 harg9 _ _ _ _) ?_
      intro p hp; exact absurd hp List.not_mem_nil
    · intro hn
      rw [dif_neg (fun h => hn (hv8.1 h))]
      exact hf11
    · intro e5
      rw [dif_pos (hl.2 e5)]
      refine (View.read_writes_full _ _ _ _ _).trans ?_
      unfold runV.sl.r_116 runV.sl.r_117 runV.sl.r_118
      rw [hD]
      unfold runV.sl.v1668
      rw [readAt_whole _ _ (by decide), readAt_whole _ _ (by decide), hf10]
      rw [show runV.sl.r_114 c i t2 = a2 from h2, show runV.sl.r_115 c i t3 = a3 from h3]
    · intro hn
      rw [dif_neg (fun h => hn (hl.1 h))]
      exact hf10
  isplitl [H12]
  · iexists _, _; isplitr; swap; · iexact H12
    ipureintro; rfl
  isplitl [T0]; · iexact T0
  isplitl [T1]; · iexact T1
  isplitl [T2]; · iexact T2
  isplitl [T3]; · iexact T3
  isplitl [T4]; · iexact T4
  iexact T5

end Cert.KernelIdeal.Hand

end
-- ==== Proof.KI.Value.lean ====
/- The kernel's output over the extended reals. Hand-written, untrusted. -/
module

public import proofs.«01_k».proof.Proof.KI.Step
public import proofs.«01_k».proof.Proof.KI.RunV
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Routing Idealize.ShloMosaic.ValueIdx Cert.Tables Cert.Words Cert.Scale

variable (m : (ℓ : Loc nD τ sig) → Buf (Elt Ideal) ℓ) (ρ : Dev nD → PrngReg)

/-! ## The output array -/

/-- The output array: each row by the one group it belongs to. -/
def outA (c : Dev nD) : Vec Ideal S65536x2048 .bf16 := fun i =>
  ∑ g : Fin 16, if P (szs m) g.val ≤ (i 0).val ∧ (i 0).val < P (szs m) (g.val + 1) then rowV m c g (i 0) (i 1) else (0 : EReal)

theorem exists_group (s : ℕ → ℕ) (R : ℕ) : ∀ n, R < P s n → ∃ g, g < n ∧ P s g ≤ R ∧ R < P s (g + 1)
  | 0, h => absurd h (Nat.not_lt_zero _)
  | n + 1, h => by
    by_cases hn : R < P s n
    · obtain ⟨g, h1, h2⟩ := exists_group s R n hn
      exact ⟨g, by omega, h2⟩
    · exact ⟨n, by omega, by omega, h⟩

theorem outA_of (c : Dev nD) (g : Fin 16) (r : Fin 65536) (a : Fin 2048) (h1 : P (szs m) g.val ≤ r.val) (h2 : r.val < P (szs m) (g.val + 1)) :
    outA m c (ix2 r a) = rowV m c g r a := by
  unfold outA
  refine (Finset.sum_eq_single g (fun g' _ hne => ?_) (fun h => absurd (Finset.mem_univ g) h)).trans (if_pos ⟨h1, h2⟩)
  refine if_neg fun ⟨k1, k2⟩ => hne (Fin.ext ?_)
  have k1' : P (szs m) g'.val ≤ r.val := k1
  have k2' : r.val < P (szs m) (g'.val + 1) := k2
  rcases Nat.lt_trichotomy g'.val g.val with h | h | h
  · have := P_mono (szs m) (show g'.val + 1 ≤ g.val from h); omega
  · exact h
  · have := P_mono (szs m) (show g.val + 1 ≤ g'.val from h); omega

theorem out_of_good (hc : Cov m) (c : Dev nD) (t : ℕ) (X : Vec Ideal S512x2048 .bf16) (hh : hi (szs m) (vt m t) = 512) (hG : Good m c t X) (r : Fin 512)
    (hb : 512 * tile (szs m) (vt m t) + r.val < 65536) (a : Fin 2048) : X (ix2 r a) = outA m c (ix2 ⟨512 * tile (szs m) (vt m t) + r.val, hb⟩ a) := by
  obtain ⟨g, hg, h1, h2⟩ := exists_group (szs m) (512 * tile (szs m) (vt m t) + r.val) 16 (by rw [hc]; exact hb)
  rw [outA_of m c ⟨g, hg⟩ _ a h1 h2]
  exact hG ⟨g, hg⟩ r hb (by rw [hh]; exact r.isLt) h1 h2 a

/-- Where the block is written back its visit reaches the tile's end. -/
theorem hi_of_flush (hc : Cov m) (hO : Ok m) (t : Fin (cfgM m hO).N) (h : ((cfgM m hO).win 3).flush t = true) : hi (szs m) (vt m t.val) = 512 := by
  rcases (flush3 m hc hO t).mp h with h | ⟨_, h⟩
  · rw [h]; exact (pt_last (szs m) hc).2
  · rcases pt_next (szs m) hc t.val with ⟨_, ⟨e, _⟩ | ⟨_, e, _⟩⟩ | ⟨_, e, _⟩
    · exact absurd e h
    · exact e
    · exact absurd e h

theorem tile_left (hc : Cov m) : ∀ n T, T ≤ tile (szs m) (vt m n) →
    T = tile (szs m) (vt m n) ∨ ∃ t, t < n ∧ tile (szs m) (vt m t) = T ∧ tile (szs m) (vt m (t + 1)) ≠ tile (szs m) (vt m t)
  | 0, T, h => by
    have h0 : tile (szs m) (vt m 0) = 0 := (pt_zero (szs m) hc).1
    left; omega
  | n + 1, T, h => by
    have hs : tile (szs m) (vt m (n + 1)) = tile (szs m) (vt m n) ∨ tile (szs m) (vt m (n + 1)) = tile (szs m) (vt m n) + 1 := by
      rcases pt_next (szs m) hc n with ⟨_, ⟨e, _⟩ | ⟨e, _⟩⟩ | ⟨_, e, _⟩
      · exact .inl e
      · exact .inr e
      · exact .inl e
    by_cases hT : T ≤ tile (szs m) (vt m n)
    · rcases tile_left hc n T hT with e | ⟨t, ht, e⟩
      · rcases hs with hs | hs
        · left; omega
        · right; exact ⟨n, by omega, e.symm, by omega⟩
      · right; exact ⟨t, by omega, e⟩
    · left; omega

/-- Every tile is written back at some point. -/
theorem tile_flushed (hc : Cov m) (hO : Ok m) (T : ℕ) (hT : T < 128) :
    ∃ t : Fin (cfgM m hO).N, ((cfgM m hO).win 3).flush t = true ∧ tile (szs m) (vt m t.val) = T := by
  have hN := N_eq m hO
  have hl : tile (szs m) (vt m 142) = 127 := (pt_last (szs m) hc).1
  rcases tile_left m hc 142 T (by omega) with e | ⟨t, ht, e, hne⟩
  · exact ⟨⟨142, by omega⟩, (flush3 m hc hO _).mpr (.inl rfl), e.symm⟩
  · exact ⟨⟨t, by omega⟩, (flush3 m hc hO _).mpr (.inr ⟨ht, hne⟩), e⟩

/-! ## The run -/

/-- What the output window holds after a point. -/
def RlV (hO : Ok m) (c : Dev nD) : (w : Fin (cfgM m hO).W) → Fin (cfgM m hO).N → (((cfgM m hO).win w).block.Idx → Elt Ideal ((cfgM m hO).win w).elt) → Prop
  | ⟨3, _⟩, t, X => Good m c t.val (X : Vec Ideal S512x2048 .bf16)
  | _, _, _ => True

/-- What is carried between points: the scratch with the weights of the last point's group, and the tables. -/
def PhiV (c : Dev nD) (n : ℕ) : sProp (MT nD τ sig Unit (Elt Ideal) ℕ (UR sig nD τ) ℕ) :=
  iprop((((∃ d, ⌜Wat m c n d⌝ ∗ owns (c : Thread nD τ) scW fullShare d) ∗ (∃ d, owns (c : Thread nD τ) scD fullShare d)) ∗ (∃ r, prngReg c r))
    ∗ Pipeline.ΦT pre0 (tbl m) c)

def datsV (hO : Ok m) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ n := PhiV m c n.val
  q _ := fullShare
  owed _ := 0

theorem AV_eq (hO : Ok m) (c : Dev nD) (w : Fin (cfgM m hO).W) : (datsV m hO c).A w = V m c (Pipeline.arrRef spec0 w) := by
  dsimp only [datsV]
theorem afterV_0 (hO : Ok m) (c : Dev nD) (t : Fin (cfgM m hO).N) : (datsV m hO c).after 0 t = iblk m hO c 0 t := by dsimp only [datsV]; try rfl
theorem afterV_1 (hO : Ok m) (c : Dev nD) (t : Fin (cfgM m hO).N) : (datsV m hO c).after 1 t = iblk m hO c 1 t := by dsimp only [datsV]; try rfl
theorem afterV_2 (hO : Ok m) (c : Dev nD) (t : Fin (cfgM m hO).N) : (datsV m hO c).after 2 t = iblk m hO c 2 t := by dsimp only [datsV]; try rfl
theorem beforeV_0 (hO : Ok m) (c : Dev nD) (t : Fin (cfgM m hO).N) (d) : (datsV m hO c).before 0 t d = iblk m hO c 0 t :=
  before0_0_of m hO (datsV m hO c) (AV_eq m hO c 0) (afterV_0 m hO c) t d
theorem beforeV_1 (hO : Ok m) (c : Dev nD) (t : Fin (cfgM m hO).N) (d) : (datsV m hO c).before 1 t d = iblk m hO c 1 t :=
  before0_1_of m hO (datsV m hO c) (AV_eq m hO c 1) (afterV_1 m hO c) t d
theorem beforeV_2 (hO : Ok m) (c : Dev nD) (t : Fin (cfgM m hO).N) (d) : (datsV m hO c).before 2 t d = iblk m hO c 2 t :=
  before0_2_of m hO (datsV m hO c) (AV_eq m hO c 2) (afterV_2 m hO c) t d

/-- The data of the run. -/
def rdV (hO : Ok m) (c : Dev nD) : RDat τ (Elt Ideal) Unit ℕ (UR sig nD τ) ℕ (cfgM m hO) c := (datsV m hO c).toRRel forgets0 (RlV m hO c)

/-- What the body finds in the output block: where the point before left it there, it left it good. -/
theorem finds_good (hc : Cov m) (hO : Ok m) (c : Dev nD) (t : Fin (cfgM m hO).N) (Y) (hY : (rdV m hO c).Finds 3 t Y) (u : ℕ) (hu : t.val = u + 1)
    (ht : tile (szs m) (vt m (u + 1)) = tile (szs m) (vt m u)) : Good m c u (Y : Vec Ideal S512x2048 .bf16) := by
  have hN := N_eq m hO
  have hlt := t.isLt
  rcases ((rdV m hO c).finds_of_pos (w := 3) (((cfgM m hO).win 3).fetch_out rfl t) (by omega) Y).mp hY with h | h
  · exfalso
    rcases (flush3 m hc hO _).mp h with e | ⟨_, e⟩
    · have e' : t.val - 1 = 142 := e
      omega
    · apply e
      show tile (szs m) (vt m (t.val - 1 + 1)) = tile (szs m) (vt m (t.val - 1))
      rw [show t.val - 1 = u by omega]; exact ht
  · have hl := (datsV m hO c).toRRel_leaves (fgt := forgets0) (Rl := RlV m hO c) (w := 3) rfl h
    have hl' : Good m c (t.val - 1) (Y : Vec Ideal S512x2048 .bf16) := hl
    rwa [show t.val - 1 = u by omega] at hl'

def bodyPreV (hO : Ok m) (c : Dev nD) (t : Fin (cfgM m hO).N) : sProp (MT nD τ sig Unit (Elt Ideal) ℕ (UR sig nD τ) ℕ) :=
  iprop((datsV m hO c).Φ t.castSucc ∗ (datsV m hO c).owesAt () t.castSucc
    ∗ (∃ d, owns (c : Thread nD τ) (ms0 m hO t) fullShare ((datsV m hO c).before 0 t d))
    ∗ (∃ d, owns (c : Thread nD τ) (ms1 m hO t) fullShare ((datsV m hO c).before 1 t d))
    ∗ (∃ d, owns (c : Thread nD τ) (ms2 m hO t) fullShare ((datsV m hO c).before 2 t d))
    ∗ (∃ Y, ⌜(rdV m hO c).Finds 3 t Y⌝ ∗ owns (c : Thread nD τ) (ms3 m hO t) fullShare Y))

def bodyPostV (hO : Ok m) (c : Dev nD) (t : Fin (cfgM m hO).N) : sProp (MT nD τ sig Unit (Elt Ideal) ℕ (UR sig nD τ) ℕ) :=
  iprop((datsV m hO c).Φ t.succ ∗ (datsV m hO c).owesAt () t.succ
    ∗ owns (c : Thread nD τ) (ms0 m hO t) fullShare ((datsV m hO c).after 0 t)
    ∗ owns (c : Thread nD τ) (ms1 m hO t) fullShare ((datsV m hO c).after 1 t)
    ∗ owns (c : Thread nD τ) (ms2 m hO t) fullShare ((datsV m hO c).after 2 t)
    ∗ (∃ X, ⌜RlV m hO c 3 t X⌝ ∗ owns (c : Thread nD τ) (ms3 m hO t) fullShare X))

set_option maxHeartbeats 1000000 in
/-- The body at any point of the grid. -/
theorem sound_bodyV (hc : Cov m) (hO : Ok m) (c : Dev nD) (t : Fin (cfgM m hO).N) :
    bodyPreV m hO c t ⊢ wp Idealize.ShloMosaic.frame (wpE (defs₀ (F := Ideal)) Variants.none c none) Set.univ (bodyAt m hO t) (fun _ => bodyPostV m hO c t) := by
  have hg := gi_coords m hO t
  have w2 := (congrArg (tbl m 2 : IVec S143 32) (at_eq (grid0.coords t) (k0_off2_inb (grid0.coords t)))).trans ((tbl2_at m hc (gi (grid0.coords t))).trans (congrArg (fun n => BitVec.ofNat 32 (lo (szs m) (vt m n))) hg))
  have w3 := (congrArg (tbl m 3 : IVec S143 32) (at_eq (grid0.coords t) (k0_off2_inb (grid0.coords t)))).trans ((tbl3_at m hc (gi (grid0.coords t))).trans (congrArg (fun n => BitVec.ofNat 32 (hi (szs m) (vt m n))) hg))
  have w4 := (congrArg (tbl m 4 : IVec S143 32) (at_eq (grid0.coords t) (k0_off1_inb (grid0.coords t)))).trans ((tbl4_at m hc (gi (grid0.coords t))).trans (congrArg (fun n => BitVec.ofNat 32 (if vt m n = C (szs m) (grp (szs m) (vt m n)) then 1 else 0)) hg))
  have w5 := (congrArg (tbl m 5 : IVec S143 32) (at_eq (grid0.coords t) (k0_off1_inb (grid0.coords t)))).trans ((tbl5_at m hc (gi (grid0.coords t))).trans (congrArg (fun n => BitVec.ofNat 32 (if n < C (szs m) 16 then 1 else 0)) hg))
  beta_reduce at w2 w3 w4 w5
  unfold bodyPreV bodyPostV bodyAt
  simp only [beforeV_0, beforeV_1, beforeV_2]
  rw [show (datsV m hO c).owesAt () t.succ = (datsV m hO c).owesAt () t.castSucc from rfl,
    afterV_0, afterV_1, afterV_2]
  rw [show (datsV m hO c).Φ t.castSucc = PhiV m c t.val from rfl, show (datsV m hO c).Φ t.succ = PhiV m c (t.val + 1) from rfl]
  unfold PhiV
  rw [PhiT_eq]
  iintro ⟨⟨⟨⟨⟨%dw, %hW, HW⟩, HD⟩, Hg⟩, T0, T1, T2, T3, T4, T5⟩, Ho, ⟨%d0, H0⟩, ⟨%d1, H1⟩, ⟨%d2, H2⟩, ⟨%Y, %hY, H3⟩⟩
  iapply (runV c (grid0.coords t) _ (hs0 m hO t) _ (hs1 m hO t) _ (hs2 m hO t) _ (hs3 m hO t) (iblk m hO c 0 t) (iblk m hO c 1 t) (iblk m hO c 2 t) Y dw
    (tbl m 0) (tbl m 1) (tbl m 2) (tbl m 3) (tbl m 4) (tbl m 5) _ _ _ _ w2 w3 w4 w5 Set.univ _)
  isplitl [H0]; · iexact H0
  isplitl [H1]; · iexact H1
  isplitl [H2]; · iexact H2
  isplitl [H3]; · iexact H3
  isplitl [HW]; · iexact HW
  isplitl [HD]; · iexact HD
  isplitl [T0]; · iexact T0
  isplitl [T1]; · iexact T1
  isplitl [T2]; · iexact T2
  isplitl [T3]; · iexact T3
  isplitl [T4]; · iexact T4
  isplitl [T5]; · iexact T5
  iintro ⟨H0, H1, H2, ⟨%y10, %y11, %hB, H3, HW⟩, HD, T0, T1, T2, T3, T4, T5⟩
  isplitl [HW HD Hg T0 T1 T2 T3 T4 T5]
  · isplitl [HW HD Hg]
    · isplitl [HW HD]
      · isplitl [HW]
        · iexists y11
          isplitr
          · ipureintro
            intro _
            exact ⟨(visit (szs m) hc (vc_lt (szs m) hc t.val)).1, step_w m hc hO c t Y y10 dw y11 _ _ hW hB _⟩
          iexact HW
        iexact HD
      iexact Hg
    isplitl [T0]; · iexact T0
    isplitl [T1]; · iexact T1
    isplitl [T2]; · iexact T2
    isplitl [T3]; · iexact T3
    isplitl [T4]; · iexact T4
    iexact T5
  isplitl [Ho]; · iexact Ho
  isplitl [H0]; · iexact H0
  isplitl [H1]; · iexact H1
  isplitl [H2]; · iexact H2
  iexists y10
  isplitr
  · ipureintro
    exact step_good m hc hO c t Y y10 dw y11 hW (finds_good m hc hO c t Y hY) hB
  iexact H3

theorem body_obligationV (hc : Cov m) (hO : Ok m) (c : Dev nD) :
    Pipeline.BodyObligationRel (datsV m hO c) (defs₀ (F := Ideal)) Variants.none () Set.univ forgets0 (RlV m hO c) := fun t => by
  rw [bigSep_W0, bigSep_W0, defs₀_row m hO]
  exact triple_restated (sound_bodyV m hc hO c t) rfl .rfl fun _ => .rfl

theorem PhiV_in (c : Dev nD) : iprop(Pipeline.ΦA spec0 c ∗ Pipeline.ΦT pre0 (tbl m) c) ⊢ PhiV m c 0 := by
  unfold PhiV
  rw [PhiA_eq]
  iintro ⟨⟨⟨⟨%d, HW⟩, HD⟩, Hg⟩, HT⟩
  isplitl [HW HD Hg]
  · isplitl [HW HD]
    · isplitl [HW]
      · iexists d
        isplitr
        · ipureintro; exact fun h => absurd h (Nat.lt_irrefl 0)
        iexact HW
      iexact HD
    iexact Hg
  iexact HT

theorem PhiV_out (c : Dev nD) (n : ℕ) : PhiV m c n ⊢ Pipeline.ΦA spec0 c := by
  unfold PhiV
  rw [PhiA_eq]
  iintro ⟨⟨⟨⟨%d, -, HW⟩, HD⟩, Hg⟩, -⟩
  isplitl [HW HD]
  · isplitl [HW]
    · iexists d; iexact HW
    iexact HD
  iexact Hg

set_option backward.isDefEq.respectTransparency.types false in
theorem run_mainV (hc : Cov m) (hO : Ok m) : θ_run defs (onTc (τ := τ) (main (F := Ideal))) (s₀ m ρ)
    (fun r => Pipeline.RDat.FramePost ((Pipeline.pin pcfgs fun _ => adm m hO) 0) (rdV m hO) (V m) r ∧ r.2.sem = fun _ => 0) :=
  Pipeline.RDat.θ_run_frameP_track (Q' := _) pcfgs (fun _ => adm m hO) (0 : Fin 1) launch0 defs₀ Variants.none (rdV m hO) m ρ main
    (hbody := fun c => (body_obligationV m hc hO c).toRRel) (hshare := fun c => (datsV m hO c).share_full fun _ => rfl)
    (howed := fun _ _ => rfl) (V := V m) (hmain := hmain m Variants.none) (hA := AV_eq m hO) (hpf := V_pre m)
    (hin := fun c => PhiV_in m c) (hout := fun c => PhiV_out m c _)

end Cert.KernelIdeal.Hand

end
-- ==== Proof.KI.Out.lean ====
/- The kernel's run over the extended reals: what the output array ends at. Hand-written, untrusted. -/
module

public import proofs.«01_k».proof.Proof.KI.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Routing Idealize.ShloMosaic.ValueIdx Cert.Tables Cert.Words Cert.Scale

variable (m : (ℓ : Loc nD τ sig) → Buf (Elt Ideal) ℓ) (ρ : Dev nD → PrngReg)

/-- What the body may have left in the output block is good. -/
theorem good_of_leaves (hO : Ok m) (c : Dev nD) (t : Fin (cfgM m hO).N) (X) (h : (rdV m hO c).Leaves 3 t X) :
    Good m c t.val (X : Vec Ideal S512x2048 .bf16) :=
  (datsV m hO c).toRRel_leaves (fgt := forgets0) (Rl := RlV m hO c) (w := 3) rfl h

/-- Every place of the output array lies in a block that is written back. -/
theorem covered (hc : Cov m) (hO : Ok m) (i : S65536x2048.Idx) :
    ∃ t : Fin (cfgM m hO).N, ((cfgM m hO).win 3).flush t = true ∧ i ∈ (((cfgM m hO).win 3).blk t).view.set := by
  have hi := (i 0).isLt
  have hi' : (i 0).val < 65536 := hi
  obtain ⟨t, hf, ht⟩ := tile_flushed m hc hO ((i 0).val / 512) (by omega)
  refine ⟨t, hf, ?_⟩
  have hb : 512 * tile (szs m) (vt m t.val) + (⟨(i 0).val % 512, Nat.mod_lt _ (by decide)⟩ : Fin 512).val < 65536 := by
    show 512 * tile (szs m) (vt m t.val) + (i 0).val % 512 < 65536
    rw [ht]; omega
  have e := emb3 m hc hO t ⟨(i 0).val % 512, Nat.mod_lt _ (by decide)⟩ (i 1) hb
  have e' : i = (ix2 ⟨512 * tile (szs m) (vt m t.val) + (⟨(i 0).val % 512, Nat.mod_lt _ (by decide)⟩ : Fin 512).val, hb⟩ (i 1) : S65536x2048.Idx) := by
    funext a
    match a with
    | ⟨0, _⟩ =>
      refine Fin.ext ?_
      show (i 0).val = 512 * tile (szs m) (vt m t.val) + (i 0).val % 512
      rw [ht]; omega
    | ⟨1, _⟩ => rfl
  exact e' ▸ e ▸ View.emb_mem_set _ _

/-- The output array after the run. -/
theorem out_eq (hc : Cov m) (hO : Ok m) (r : _) (h : Pipeline.RDat.FramePost ((Pipeline.pin pcfgs fun _ => adm m hO) 0) (rdV m hO) (V m) r) (c : Dev nD) :
    r.2.mem ((c.tc : Thread nD τ).loc main_v83) = outA m c := by
  obtain ⟨after, hL, hA⟩ := RDat.FramePost.exists_exact h c
  refine (hA 3).trans ?_
  refine Dat.arrAt_eq_of_emb (cfg := cfgM m hO) ((rdV m hO c).withAfter after) (3 : Fin 4) (outA m c) (fun t hf y => ?_) (covered m hc hO)
  have hG := good_of_leaves m hO c t _ (hL 3 t hf)
  have hh := hi_of_flush m hc hO t hf
  have hb : 512 * tile (szs m) (vt m t.val) + (y 0).val < 65536 := by
    have h0 := (y 0).isLt
    have h1 : (y 0).val < 512 := h0
    have h2 : tile (szs m) (vt m t.val) < 128 := (visit (szs m) hc (vc_lt (szs m) hc t.val)).2.1
    omega
  have hy : y = (ix2 (y 0) (y 1) : S512x2048.Idx) := by
    funext a
    match a with
    | ⟨0, _⟩ => rfl
    | ⟨1, _⟩ => rfl
  have e := out_of_good m hc c t.val _ hh hG (y 0) hb (y 1)
  refine Eq.trans ?_ (e.trans (congrArg (outA m c) ?_))
  · exact congrArg (after 3 t : S512x2048.Idx → EReal) hy
  · exact ((congrArg _ hy).trans (emb3 m hc hO t (y 0) (y 1) hb)).symm

/-- Every run ends with the output array at `outA` and the arguments as launched. -/
theorem run_out (hc : Cov m) : θ_run defs (onTc (τ := τ) (main (F := Ideal))) ⟨m, fun _ => 0, ρ⟩ (fun r => ∀ c : Dev nD,
      r.2.mem ((c.tc : Thread nD τ).loc main_v83) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨out_eq m hc (ok_of_cov m hc) r h.1 c, frame_of m (ok_of_cov m hc) _ (AV_eq m (ok_of_cov m hc)) r h.1 c⟩)
    (run_mainV m ρ hc (ok_of_cov m hc))

end Cert.KernelIdeal.Hand

end
-- ==== Proof.RI.Reads.lean ====
/- What the reference's buffers hold: before the casts' region and after it, as terms over the arguments. Hand-written, untrusted. -/
module

public import proofs.«01_k».proof.Proof.Gen.ReferenceIdeal.Frame
public import Idealize.ShloMosaic.Lib.StableHlo.RunRead

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## The terms -/

/-- The rows in blocks of 128. -/
def xR (x : Vec F S65536x3072 .bf16) : Vec F S65536x24x128 .bf16 := shapeCast S65536x24x128 x shapeCasts_S65536x3072_S65536x24x128

/-- Each block's greatest absolute value over the format's greatest. -/
def ratioR (x : Vec F S65536x3072 .bf16) : FVec F S65536x24x1 .f32 :=
  mulf (broadcastInDim S65536x24x1 ![0, 1] bcast_S65536x24_S65536x24x1_0_1
      (Host.reduce FloatOps.maximumf (Host.absf (extf .f32 (xR x) bitsLt_bf16_f32)) (constant S_ .f32 0xFF800000#32) reducesTo_S65536x24x128_S65536x24_d2 h_S_))
    (broadcastInDim S65536x24x1 ![] bcast_S_S65536x24x1 (constant S_ .f32 0x37924925#32))

def splat1 (b : BitVec 32) : FVec F S65536x24x1 .f32 := broadcastInDim S65536x24x1 ![] bcast_S_S65536x24x1 (constant S_ .f32 b)

/-- The exponent of each block's scale. -/
def expoR (x : Vec F S65536x3072 .bf16) : FVec F S65536x24x1 .f32 :=
  addf (minimumf (Host.floor (Host.divf (Host.log (ratioR x)) (broadcastInDim S65536x24x1 ![] bcast_S_S65536x24x1 (Host.log (constant S_ .f32 0x40000000#32)))))
    (splat1 0x42FE0000#32)) (splat1 0x3F800000#32)

/-- Each block's scale. -/
def scaleR (x : Vec F S65536x3072 .bf16) : FVec F S65536x24x1 .f32 :=
  select (andi (cmpf .oge (ratioR x) (splat1 0x00800000#32)) (cmpf .olt (ratioR x) (splat1 0x7F800000#32)))
    (Host.powf (splat1 0x40000000#32) (expoR x)) (splat1 0x3F800000#32)

/-- A value for every entry, by block. -/
def wide (v : FVec F S65536x24x1 .f32) : FVec F S65536x24x128 .bf16 :=
  broadcastInDim S65536x24x128 ![0, 1, 2] bcast_S65536x24x1_S65536x24x128_0_1_2 (truncf .bf16 v bitsLt_bf16_f32)

def splat2 (b : BitVec 32) : FVec F S65536x24x128 .bf16 :=
  broadcastInDim S65536x24x128 ![] bcast_S_S65536x24x128 (truncf .bf16 (constant S_ .f32 b) bitsLt_bf16_f32)

/-- The scaled and clipped entries. -/
def codesR (x : Vec F S65536x3072 .bf16) : Vec F S65536x3072 .bf16 :=
  shapeCast S65536x3072 (minimumf (splat2 0x47600000#32) (maximumf (splat2 0xC7600000#32)
    (mulf (xR x) (wide (Host.divf (splat1 0x3F800000#32) (scaleR x)))))) shapeCasts_S65536x24x128_S65536x3072

/-- The entries read back. -/
def backR (x q : Vec F S65536x3072 .bf16) : Vec F S65536x3072 .bf16 :=
  shapeCast S65536x3072 (mulf (shapeCast S65536x24x128 q shapeCasts_S65536x3072_S65536x24x128) (wide (scaleR x))) shapeCasts_S65536x24x128_S65536x3072

/-- The weights read back. -/
def wR (w : Vec F S16x2048x3072 .bf16) (s : Vec F S16x2048 .f32) : FVec F S16x2048x3072 .bf16 :=
  mulf w (broadcastInDim S16x2048x3072 ![0, 1, 2] bcast_S16x2048x1_S16x2048x3072_0_1_2
    (broadcastInDim S16x2048x1 ![0, 1] bcast_S16x2048_S16x2048x1_0_1 (truncf .bf16 s bitsLt_bf16_f32)))

def endsR (z : IVec S16 32) : IVec S16 32 :=
  Host.reduceWindow IntOp.addi ![16] ![1] ![15] ![0] z (broadcastInDim S_ ![] bcast_S_S_ (constantI S_ 32 0#32)) reduceWindows_S16_S16_w16s1p15_0 h_S_

def rowsR : IVec S65536x16 32 :=
  broadcastInDim S65536x16 ![0, 1] bcast_S65536x1_S65536x16_0_1 (broadcastInDim S65536x1 ![0] bcast_S65536_S65536x1_0 (iotaInDim S65536 32 0))

def colsR (e : IVec S16 32) : IVec S65536x16 32 :=
  broadcastInDim S65536x16 ![0, 1] bcast_S1x16_S65536x16_0_1 (broadcastInDim S1x16 ![1] bcast_S16_S1x16_1 e)

/-- Which row belongs to which group. -/
def maskR (z : IVec S16 32) : IVec S65536x16 1 :=
  andi (cmpi .sge rowsR (colsR (subi (endsR z) z))) (cmpi .slt rowsR (colsR (endsR z)))

/-- The result. -/
def outR (x q : Vec F S65536x3072 .bf16) (z : IVec S16 32) (w : Vec F S16x2048x3072 .bf16) (s : Vec F S16x2048 .f32) : FVec F S65536x2048 .bf16 :=
  truncf .bf16 (Host.reduceAdd (select (broadcastInDim S65536x16x2048 ![0, 1, 2] bcast_S65536x16x1_S65536x16x2048_0_1_2
        (broadcastInDim S65536x16x1 ![0, 1] bcast_S65536x16_S65536x16x1_0_1 (maskR z)))
      (Host.dotGeneral dot_S65536x3072_S16x2048x3072_S65536x16x2048_1_2_0_01_n_n none (backR x q) (wR w s))
      (broadcastInDim S65536x16x2048 ![] bcast_S_S65536x16x2048 (constant S_ .f32 0x00000000#32)))
    (constant S_ .f32 0x00000000#32) reducesTo_S65536x16x2048_S65536x2048_d1 h_S_) bitsLt_bf16_f32

/-! ## The buffers -/

variable (m : (ℓ : Loc nD τ sig) → Buf (Elt F) ℓ)

abbrev a0 (c : Dev nD) : Vec F S65536x3072 .bf16 := m ((c : Thread nD τ).loc main_arg0)
abbrev a1 (c : Dev nD) : IVec S16 32 := m ((c : Thread nD τ).loc main_arg1)
abbrev a2 (c : Dev nD) : Vec F S16x2048x3072 .fp8e4m3 := m ((c : Thread nD τ).loc main_arg2)
abbrev a3 (c : Dev nD) : Vec F S16x2048 .f32 := m ((c : Thread nD τ).loc main_arg3)

set_option maxHeartbeats 1000000 in
theorem V_v31 (c : Dev nD) : V m c main_v31 = codesR (a0 m c) := by
  unfold V V0
  simp only [List.flatten_cons, List.flatten_nil, List.append_nil, List.cons_append, List.nil_append, hostOps0, hostOps0_1, hostOps0_2, hostOps0_3, hostOps0_4]
  after_reads_simp
  simp -implicitDefEqProofs only [StableHlo.TRef.toBuf, StableHlo.TRef.ofBuf, cast_cast, cast_eq, id]
  simp only [codesR, wide, splat1, splat2, scaleR, expoR, ratioR, xR, a0]
  all_goals rfl

set_option maxHeartbeats 1000000 in
theorem V_v24 (c : Dev nD) : V m c main_v24 = scaleR (a0 m c) := by
  unfold V V0
  simp only [List.flatten_cons, List.flatten_nil, List.append_nil, List.cons_append, List.nil_append, hostOps0, hostOps0_1, hostOps0_2, hostOps0_3, hostOps0_4]
  after_reads_simp
  simp -implicitDefEqProofs only [StableHlo.TRef.toBuf, StableHlo.TRef.ofBuf, cast_cast, cast_eq, id]
  simp only [codesR, wide, splat1, splat2, scaleR, expoR, ratioR, xR, a0]
  all_goals rfl

set_option maxHeartbeats 1000000 in
/-- The buffer of the result, after the lines behind the region, from what they find. -/
theorem tail_v59 (v : Valuation τ sig (Elt F)) (x q : Vec F S65536x3072 .bf16) (z : IVec S16 32) (w : Vec F S16x2048x3072 .bf16) (s : Vec F S16x2048 .f32)
    (h24 : v (Proc.devRef .tc main_v24) = scaleR x) (h0 : v (Proc.devRef .tc main_v32_0) = q) (h1 : v (Proc.devRef .tc main_v32_1) = w)
    (hz : v (Proc.devRef .tc main_arg1) = z) (hs : v (Proc.devRef .tc main_arg3) = s) :
    StableHlo.after (List.flatten [hostOps1, hostOps1_1, hostOps1_2, hostOps1_3, hostOps1_4]) v (Proc.devRef .tc main_v59) = outR x q z w s := by
  simp only [List.flatten_cons, List.flatten_nil, List.append_nil, List.cons_append, List.nil_append, hostOps1, hostOps1_1, hostOps1_2, hostOps1_3, hostOps1_4]
  after_reads_simp
  simp -implicitDefEqProofs only [StableHlo.TRef.toBuf, StableHlo.TRef.ofBuf, cast_cast, cast_eq, id]
  simp only [h24, h0, h1, hz, hs]
  simp only [outR, wR, wide, backR, maskR, colsR, rowsR, endsR]
  all_goals rfl

end Cert.ReferenceIdeal.Hand

end
-- ==== Proof.RI.Vals.lean ====
/- What the reference computes, over the extended reals, at each place. Hand-written, untrusted. -/
module

public import proofs.«01_k».proof.Proof.RI.Reads
public import proofs.«01_k».proof.Proof.Scale
public import proofs.«01_k».proof.Proof.WordVals
public import Idealize.ShloMosaic.Lib.Pointwise.ElementwiseCore
public import Idealize.ShloMosaic.Lib.MatmulPlain
public import Idealize.ShloMosaic.Lib.KernelVsHost

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window)

open Idealize.ShloMosaic.ValueIdx Cert.Scale

attribute [local irreducible] Ideal.ofBits

/-! ## The blocks -/

/-- Place `j` of block `b` of a row of 3072. -/
def colOf (b : Fin 24) (j : Fin 128) : Fin 3072 := ⟨128 * b.val + j.val, by have := b.isLt; have := j.isLt; omega⟩

/-- The block that column `k` lies in. -/
def blkOf (k : Fin 3072) : Fin 24 := ⟨k.val / 128, by have := k.isLt; omega⟩

theorem split_at {α : Type} (x : S65536x3072.Idx → α) (r : Fin 65536) (b : Fin 24) (j : Fin 128) :
    shapeCast S65536x24x128 x shapeCasts_S65536x3072_S65536x24x128 (ix3 r b j) = x (ix2 r (colOf b j)) :=
  shapeCast_apply _ _ _ _ (by
    rw [Shape.rowMajor_val_two, Shape.rowMajor_val_three]
    show r.val * 3072 + (128 * b.val + j.val) = (r.val * 24 + b.val) * 128 + j.val
    omega)

theorem join_at {α : Type} (x : S65536x24x128.Idx → α) (r : Fin 65536) (k : Fin 3072) :
    shapeCast S65536x3072 x shapeCasts_S65536x24x128_S65536x3072 (ix2 r k) = x (ix3 r (blkOf k) (blkpos k)) :=
  shapeCast_apply _ _ _ _ (by
    rw [Shape.rowMajor_val_two, Shape.rowMajor_val_three]
    show (r.val * 24 + k.val / 128) * 128 + k.val % 128 = r.val * 3072 + k.val
    omega)

theorem colOf_blk (k : Fin 3072) : colOf (blkOf k) (blkpos k) = k := Fin.ext (by show 128 * (k.val / 128) + k.val % 128 = k.val; omega)

theorem wide_at (v : FVec Ideal S65536x24x1 .f32) (r : Fin 65536) (b : Fin 24) (j : Fin 128) :
    (wide v : FVec Ideal S65536x24x128 .bf16) (ix3 r b j) = v (ix3 r b (0 : Fin 1)) := by
  unfold wide
  refine (broadcastInDim_apply _ _ _ _ (ix3 r b (0 : Fin 1)) fun a => by match a with | ⟨0, _⟩ => rfl | ⟨1, _⟩ => rfl | ⟨2, _⟩ => rfl).trans ?_
  rfl

/-! ## The scale -/

theorem reduces3 : S65536x24x128.Reduces [2] S65536x24 := by decide

theorem max3_at (y : FVec Ideal S65536x24x128 .f32) (r : Fin 65536) (b : Fin 24) :
    Host.reduce FloatOps.maximumf y (constant S_ .f32 0xFF800000#32) reducesTo_S65536x24x128_S65536x24_d2 h_S_ (ix2 r b)
      = Finset.univ.fold max (⊥ : EReal) fun k : Fin 128 => y (ix3 r b k) := by
  refine (congrFun (hostReduce_maximumf_eq_multiReduction y 0xFF800000#32 reducesTo_S65536x24x128_S65536x24_d2 h_S_ reduces3 (Or.inl rfl) rfl) (ix2 r b)).trans ?_
  refine (Ideal.multiReduction_maximumf_single _ _ _ _ _ _).trans ?_
  have e : (FloatOps.ofBits .f32 0xFF800000#32 : Ideal .f32) = (⊥ : EReal) := by
    show Ideal.ofBits .f32 0xFF800000#32 = ⊥
    simp [Ideal.ofBits, Ideal.ieee]
  rw [e]
  refine congrArg (Finset.univ.fold max ⊥) ?_
  funext k
  refine congrArg y ?_
  funext a
  match a with
  | ⟨0, _⟩ => rfl
  | ⟨1, _⟩ => rfl
  | ⟨2, _⟩ => rfl

theorem abs_at (x : Vec Ideal S65536x3072 .bf16) (r : Fin 65536) (b : Fin 24) (k : Fin 128) :
    (Host.absf (extf .f32 (xR x) bitsLt_bf16_f32) : FVec Ideal S65536x24x128 .f32) (ix3 r b k) = max (x (ix2 r (colOf b k)) : EReal) (-(x (ix2 r (colOf b k)) : EReal)) := by
  show max ((xR x) (ix3 r b k) : EReal) (-((xR x) (ix3 r b k) : EReal)) = _
  rw [show (xR x) (ix3 r b k) = x (ix2 r (colOf b k)) from split_at x r b k]

theorem ratioR_at (x : Vec Ideal S65536x3072 .bf16) (r : Fin 65536) (b : Fin 24) :
    (ratioR x : FVec Ideal S65536x24x1 .f32) (ix3 r b (0 : Fin 1)) = ratio fun j => x (ix2 r (colOf b j)) := by
  unfold ratioR ratio blkmax
  simp only [mulf_apply, Ideal.mulf_def]
  refine congrArg (fun z : EReal => z * Ideal.ofBits .f32 0x37924925#32) ?_
  refine (broadcastInDim_apply _ _ _ _ (ix2 r b) fun a => by match a with | ⟨0, _⟩ => rfl | ⟨1, _⟩ => rfl).trans ?_
  refine (max3_at _ r b).trans ?_
  refine congrArg (Finset.univ.fold max ⊥) ?_
  funext k
  exact abs_at x r b k

theorem splat1_at (b : BitVec 32) (i : S65536x24x1.Idx) : (splat1 b : FVec Ideal S65536x24x1 .f32) i = Ideal.ofBits .f32 b := rfl
theorem splat2_at (b : BitVec 32) (i : S65536x24x128.Idx) : (splat2 b : FVec Ideal S65536x24x128 .bf16) i = Ideal.ofBits .f32 b := rfl
theorem logTwo_at (i : S65536x24x1.Idx) :
    (broadcastInDim S65536x24x1 ![] bcast_S_S65536x24x1 (Host.log (constant S_ .f32 0x40000000#32)) : FVec Ideal S65536x24x1 .f32) i = Ideal.log (Ideal.ofBits .f32 0x40000000#32) := rfl

theorem expoR_at (x : Vec Ideal S65536x3072 .bf16) (i : S65536x24x1.Idx) :
    (expoR x : FVec Ideal S65536x24x1 .f32) i = exponent ((ratioR x : FVec Ideal S65536x24x1 .f32) i) := by
  unfold expoR exponent
  generalize (ratioR x : FVec Ideal S65536x24x1 .f32) = q
  rw [addf_apply, minimumf_apply, Host.floor_apply, Host.divf_apply, Host.log_apply, splat1_at, splat1_at, logTwo_at]
  rw [Ideal.hostUnary_floor_def, Ideal.hostDivf_def, Ideal.hostUnary_log_def]

theorem scaleR_at (x : Vec Ideal S65536x3072 .bf16) (r : Fin 65536) (b : Fin 24) :
    (scaleR x : FVec Ideal S65536x24x1 .f32) (ix3 r b (0 : Fin 1)) = rScale (ratio fun j => x (ix2 r (colOf b j))) := by
  rw [← ratioR_at]
  unfold scaleR rScale normal
  rw [select_apply, andi_apply, cmpf_apply, cmpf_apply, Host.powf_apply, splat1_at, splat1_at, splat1_at, splat1_at, expoR_at]
  rw [Ideal.cmpf_def, Ideal.cmpf_def, Ideal.hostPowf_def]

/-! ## The requantised rows -/

theorem inv_at (x : Vec Ideal S65536x3072 .bf16) (r : Fin 65536) (b : Fin 24) :
    (Host.divf (splat1 0x3F800000#32) (scaleR x) : FVec Ideal S65536x24x1 .f32) (ix3 r b (0 : Fin 1))
      = Ideal.div (Ideal.ofBits .f32 0x3F800000#32) (rScale (ratio fun j => x (ix2 r (colOf b j)))) := by
  rw [Host.divf_apply, splat1_at, scaleR_at, Ideal.hostDivf_def]

theorem codes_at (x : Vec Ideal S65536x3072 .bf16) (r : Fin 65536) (k : Fin 3072) :
    (codesR x : Vec Ideal S65536x3072 .bf16) (ix2 r k) = quant (fun j => x (ix2 r (blkcol k j))) (blkpos k) := by
  unfold codesR quant
  refine (join_at _ r k).trans ?_
  simp only [minimumf_apply, maximumf_apply, mulf_apply, Ideal.minimumf_def, Ideal.maximumf_def, Ideal.mulf_def, splat2_at]
  have h1 : (xR x) (ix3 r (blkOf k) (blkpos k)) = x (ix2 r (blkcol k (blkpos k))) := split_at x r (blkOf k) (blkpos k)
  have h2 := (wide_at (Host.divf (splat1 0x3F800000#32) (scaleR x)) r (blkOf k) (blkpos k)).trans (inv_at x r (blkOf k))
  rw [h1, h2]
  rfl

theorem back_at (x : Vec Ideal S65536x3072 .bf16) (r : Fin 65536) (k : Fin 3072) :
    (backR x (codesR x) : Vec Ideal S65536x3072 .bf16) (ix2 r k) = row (fun k => x (ix2 r k)) k := by
  unfold backR row deq
  refine (join_at _ r k).trans ?_
  simp only [mulf_apply, Ideal.mulf_def]
  have h1 : shapeCast S65536x24x128 (codesR x) shapeCasts_S65536x3072_S65536x24x128 (ix3 r (blkOf k) (blkpos k)) = quant (fun j => x (ix2 r (blkcol k j))) (blkpos k) := by
    refine (split_at _ r (blkOf k) (blkpos k)).trans ?_
    rw [colOf_blk]
    exact codes_at x r k
  have h2 := (wide_at (scaleR x) r (blkOf k) (blkpos k)).trans (scaleR_at x r (blkOf k))
  rw [h1, h2]
  rfl

theorem w_at (w : Vec Ideal S16x2048x3072 .bf16) (s : Vec Ideal S16x2048 .f32) (g : Fin 16) (a : Fin 2048) (k : Fin 3072) :
    (wR w s : FVec Ideal S16x2048x3072 .bf16) (ix3 g a k) = (w (ix3 g a k) : EReal) * s (ix2 g a) := by
  unfold wR
  simp only [mulf_apply, Ideal.mulf_def]
  refine congrArg (fun z : EReal => (w (ix3 g a k) : EReal) * z) ?_
  refine (broadcastInDim_apply _ _ _ _ (ix3 g a (0 : Fin 1)) fun a => by match a with | ⟨0, _⟩ => rfl | ⟨1, _⟩ => rfl | ⟨2, _⟩ => rfl).trans ?_
  refine (broadcastInDim_apply _ _ _ _ (ix2 g a) fun a => by match a with | ⟨0, _⟩ => rfl | ⟨1, _⟩ => rfl).trans ?_
  rfl

/-! ## The product -/

theorem contr_rank : (dot_S65536x3072_S16x2048x3072_S65536x16x2048_1_2_0_01_n_n).contr.rank = 1 := rfl
theorem contr_size : (dot_S65536x3072_S16x2048x3072_S65536x16x2048_1_2_0_01_n_n).contr.size ⟨0, by rw [contr_rank]; exact Nat.one_pos⟩ = 3072 := rfl

theorem dot_at (d : FVec Ideal S65536x3072 .bf16) (w : FVec Ideal S16x2048x3072 .bf16) (r : Fin 65536) (g : Fin 16) (a : Fin 2048) :
    (Host.dotGeneral dot_S65536x3072_S16x2048x3072_S65536x16x2048_1_2_0_01_n_n none d w : FVec Ideal S65536x16x2048 .f32) (ix3 r g a)
      = ∑ k : Fin 3072, (d (ix2 r k) * w (ix3 g a k) : EReal) := by
  show FloatOps.dotGeneral _ none _ d w (ix3 r g a) = _
  rw [Ideal.dotGeneral_apply, ← Equiv.sum_comp (contrEquiv1 dot_S65536x3072_S16x2048x3072_S65536x16x2048_1_2_0_01_n_n 3072 contr_rank contr_size).symm]
  refine Finset.sum_congr rfl fun k _ => ?_
  have hk := contrEquiv1_symm_val _ 3072 contr_rank contr_size k
  refine congrArg₂ (fun p q : EReal => p * q) (congrArg d ?_) (congrArg w ?_)
  · funext ax; apply Fin.ext
    match ax with
    | ⟨0, _⟩ => rfl
    | ⟨1, _⟩ => exact hk
  · funext ax; apply Fin.ext
    match ax with
    | ⟨0, _⟩ => rfl
    | ⟨1, _⟩ => rfl
    | ⟨2, _⟩ => exact hk

/-! ## The mask -/

open Cert.Tables Cert.Words Idealize.ShloMosaic.WordCmp

theorem ends_at (z : IVec S16 32) (g : Fin 16) : endsR z (ix1 g) = BitVec.ofNat 32 (P (sizes z) (g.val + 1)) := hEnds_at z g
theorem starts_at (z : IVec S16 32) (g : Fin 16) : subi (endsR z) z (ix1 g) = BitVec.ofNat 32 (P (sizes z) g.val) := hStarts_at z g

theorem rows_at (r : Fin 65536) (g : Fin 16) : rowsR (ix2 r g) = BitVec.ofNat 32 r.val := by
  unfold rowsR
  refine (broadcastInDim_apply _ _ _ _ (ix2 r (0 : Fin 1)) fun a => by match a with | ⟨0, _⟩ => rfl | ⟨1, _⟩ => rfl).trans ?_
  refine (broadcastInDim_apply _ _ _ _ (ix1 r) fun a => by match a with | ⟨0, _⟩ => rfl).trans ?_
  rfl

theorem cols_at (e : IVec S16 32) (r : Fin 65536) (g : Fin 16) : colsR e (ix2 r g) = e (ix1 g) := by
  unfold colsR
  refine (broadcastInDim_apply _ _ _ _ (ix2 (0 : Fin 1) g) fun a => by match a with | ⟨0, _⟩ => rfl | ⟨1, _⟩ => rfl).trans ?_
  exact broadcastInDim_apply _ _ _ _ (ix1 g) fun a => by match a with | ⟨0, _⟩ => rfl

theorem mask_at (z : IVec S16 32) (hz : P (sizes z) 16 = 65536) (r : Fin 65536) (g : Fin 16) :
    maskR z (ix2 r g) = BitVec.ofBool (decide (P (sizes z) g.val ≤ r.val) && decide (r.val < P (sizes z) (g.val + 1))) := by
  have h1 := P_le z hz (show g.val ≤ 16 by omega)
  have h2 := P_le z hz (show g.val + 1 ≤ 16 by omega)
  have h3 := r.isLt
  unfold maskR
  show IntOp.andi (IntOp.cmpi .sge (rowsR (ix2 r g)) (colsR (subi (endsR z) z) (ix2 r g))) (IntOp.cmpi .slt (rowsR (ix2 r g)) (colsR (endsR z) (ix2 r g))) = _
  rw [rows_at, cols_at, cols_at, starts_at, ends_at, cmpi_sge_ofNat (w := 32) (by omega) (by omega), cmpi_slt_ofNat (w := 32) (by omega) (by omega)]
  generalize decide (P (sizes z) g.val ≤ r.val) = p
  generalize decide (r.val < P (sizes z) (g.val + 1)) = q
  revert p q; decide

/-! ## The result -/

theorem reduces3' : S65536x16x2048.Reduces [1] S65536x2048 := by decide

theorem out_at (x : Vec Ideal S65536x3072 .bf16) (z : IVec S16 32) (hz : P (sizes z) 16 = 65536) (w : Vec Ideal S16x2048x3072 .bf16) (s : Vec Ideal S16x2048 .f32)
    (r : Fin 65536) (a : Fin 2048) :
    (outR x (codesR x) z w s : FVec Ideal S65536x2048 .bf16) (ix2 r a)
      = ∑ g : Fin 16, if P (sizes z) g.val ≤ r.val ∧ r.val < P (sizes z) (g.val + 1)
          then kval (fun k => x (ix2 r k)) (fun k => w (ix3 g a k)) (s (ix2 g a)) else (0 : EReal) := by
  unfold outR
  show Ideal.hostReduceAdd reducesTo_S65536x16x2048_S65536x2048_d1 _ (Ideal.ofBits .f32 0x00000000#32) (ix2 r a) = _
  rw [Ideal.hostReduceAdd_single _ reduces3', Ideal.ofBits_zero_f32, zero_add]
  refine Finset.sum_congr rfl fun (g : Fin 16) _ => ?_
  have hi : reduces3'.lift (ix2 r a) g = (ix3 r g a : S65536x16x2048.Idx) := by
    funext a
    match a with
    | ⟨0, _⟩ => rfl
    | ⟨1, _⟩ => rfl
    | ⟨2, _⟩ => rfl
  rw [hi]
  have hm : (broadcastInDim S65536x16x2048 ![0, 1, 2] bcast_S65536x16x1_S65536x16x2048_0_1_2
        (broadcastInDim S65536x16x1 ![0, 1] bcast_S65536x16_S65536x16x1_0_1 (maskR z)) : IVec S65536x16x2048 1) (ix3 r g a) = maskR z (ix2 r g) := by
    refine (broadcastInDim_apply _ _ _ _ (ix3 r g (0 : Fin 1)) fun a => by match a with | ⟨0, _⟩ => rfl | ⟨1, _⟩ => rfl | ⟨2, _⟩ => rfl).trans ?_
    exact broadcastInDim_apply _ _ _ _ (ix2 r g) fun a => by match a with | ⟨0, _⟩ => rfl | ⟨1, _⟩ => rfl
  have h0 : (broadcastInDim S65536x16x2048 ![] bcast_S_S65536x16x2048 (constant S_ .f32 0x00000000#32) : FVec Ideal S65536x16x2048 .f32) (ix3 r g a) = (0 : EReal) :=
    Ideal.ofBits_zero_f32
  simp only [select_apply]
  rw [hm, h0, mask_at z hz r g, dot_at _ _ r g a]
  unfold kval Scalar.select
  by_cases h : P (sizes z) g.val ≤ r.val ∧ r.val < P (sizes z) (g.val + 1)
  · rw [if_pos h, if_pos (by simp [h.1, h.2])]
    refine Finset.sum_congr rfl fun k _ => ?_
    rw [back_at, w_at]
  · rw [if_neg h, if_neg (by
      rcases not_and_or.mp h with h | h <;> simp [h])]

end Cert.ReferenceIdeal.Hand

end
-- ==== Proof.RI.Value.lean ====
/- The reference run: its result is its terms over the arguments. Hand-written, untrusted. -/
module

public import proofs.«01_k».proof.Proof.RI.Reads
public import Idealize.ShloMosaic.Lib.Pipeline.ValueKit
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window)

open Idealize.ShloMosaic.ValueIdx
open Idealize.ShloMosaic.Pipeline (Dat)

variable (m : (ℓ : Loc nD τ sig) → Buf (Elt Ideal) ℓ) (ρ : Dev nD → PrngReg)

/-! ## The region -/

theorem out2 (x0 : Vec Ideal S65536x3072 .bf16) (x1 : Vec Ideal S16x2048x3072 .fp8e4m3) : out0_2 x0 x1 = x0 := by
  unfold out0_2
  rw [View.canon_unit_zero (by funext a; match a with | ⟨0, _⟩ => rfl | ⟨1, _⟩ => rfl),
    View.ld_unit_zero (by funext a; match a with | ⟨0, _⟩ => rfl | ⟨1, _⟩ => rfl)]
  unfold k0_pay1
  rw [shapeCast_self]
  rfl

theorem out3 (x0 : Vec Ideal S65536x3072 .bf16) (x1 : Vec Ideal S16x2048x3072 .fp8e4m3) : out0_3 x0 x1 = (x1 : S16x2048x3072.Idx → EReal) := by
  unfold out0_3
  rw [View.canon_unit_zero (by funext a; match a with | ⟨0, _⟩ => rfl | ⟨1, _⟩ => rfl | ⟨2, _⟩ => rfl),
    View.ld_unit_zero (by funext a; match a with | ⟨0, _⟩ => rfl | ⟨1, _⟩ => rfl | ⟨2, _⟩ => rfl)]
  rfl

theorem iblk0 (c : Dev nD) : iblk m c 0 t0_0 = V m c main_v31 := by
  blk_ext! [iblk, (by decide +kernel : win0_0.index t0_0 = ![0, 0])]

theorem iblk1 (c : Dev nD) : iblk m c 1 t0_0 = V m c main_arg2 := by
  blk_ext! [iblk, (by decide +kernel : win0_1.index t0_0 = ![0, 0, 0])]

theorem final2 (c : Dev nD) : (dats m 0 c).arrAt 2 cfg0.N = codesR (a0 m c) := by
  refine (dats m 0 c).arrAt_eq_of_after_last 2 t0_0 (by decide +kernel) _ fun j => ?_
  blk_simp
  rw [after0_2, out2, iblk0, V_v31]

theorem final3 (c : Dev nD) : (dats m 0 c).arrAt 3 cfg0.N = (a2 m c : S16x2048x3072.Idx → EReal) := by
  refine (dats m 0 c).arrAt_eq_of_after_last 3 t0_0 (by decide +kernel) _ fun j => ?_
  blk_simp
  rw [after0_3, out3, iblk1, V_main_arg2]

/-! ## The lines behind it -/

theorem tail (c : Dev nD) :
    Pipeline.afterTail₀ cfgs (dats m) 0 (V0 m) [hostOps1, hostOps1_1, hostOps1_2, hostOps1_3, hostOps1_4] c main_v59
      = outR (a0 m c) (codesR (a0 m c)) (a1 m c) (a2 m c) (a3 m c) := by
  unfold Pipeline.afterTail₀
  refine tail_v59 _ _ _ _ _ _ ?_ ?_ ?_ ?_ ?_
  · exact (Pipeline.withArrays_of_ne _ c (V0 m c) _ main_v24 (by exact (by decide : ∀ w, Pipeline.arrRef spec0 w ≠ main_v24))).trans (V_v24 m c)
  · exact (Pipeline.withArrays_arr _ launch0.win.arr_inj c (V0 m c) _ 2).trans (final2 m c)
  · exact (Pipeline.withArrays_arr _ launch0.win.arr_inj c (V0 m c) _ 3).trans (final3 m c)
  · exact (Pipeline.withArrays_of_ne _ c (V0 m c) _ main_arg1 (by exact (by decide : ∀ w, Pipeline.arrRef spec0 w ≠ main_arg1))).trans (V_main_arg1 m c)
  · exact (Pipeline.withArrays_of_ne _ c (V0 m c) _ main_arg3 (by exact (by decide : ∀ w, Pipeline.arrRef spec0 w ≠ main_arg3))).trans (V_main_arg3 m c)

/-- Every run of the reference ends with the result at its terms over the arguments, and the arguments as launched. -/
theorem run_ref : θ_run defs (onTc (τ := τ) (main (F := Ideal))) ⟨m, fun _ => 0, ρ⟩ (fun r => ∀ c : Dev nD,
      r.2.mem ((c.tc : Thread nD τ).loc main_v59) = outR (a0 m c) (codesR (a0 m c)) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h.1 c).2 main_v59 (Pipeline.mem_restRefs_of main_v59 (by decide) (by decide))).trans (tail m c), h.2 c⟩)
    (θ_run_and (run_main m ρ) (unchanged m ρ))

end Cert.ReferenceIdeal.Hand

end
-- ==== Proof.lean ====
module

public import proofs.«01_k».proof.Defs
public import proofs.«01_k».proof.Proof.Gen.Pre_sizes_cover_rows
public import proofs.«01_k».proof.Proof.Gen.Kernel.Flash
public import proofs.«01_k».proof.Proof.Gen.KernelIdeal.Flash
public import proofs.«01_k».proof.Proof.Gen.ReferenceIdeal.Frame
public import proofs.«01_k».proof.Proof.KB.Frame
public import proofs.«01_k».proof.Proof.KI.Frame
public import proofs.«01_k».proof.Proof.KI.Out
public import proofs.«01_k».proof.Proof.RI.Vals
public import proofs.«01_k».proof.Proof.RI.Value

@[expose] public section

set_option maxRecDepth 16384

noncomputable section

namespace Cert.Proof

open Idealize.ShloMosaic Idealize.SL.Sem

/-- The precondition says that the sizes the kernel's memory holds add up to the rows. -/
theorem cov_kernel (m : (ℓ : Loc Cert.Kernel.nD Cert.Kernel.τ Cert.Kernel.sig) → Buf (Elt Bits) ℓ) (h : Pre_Kernel m) :
    Cert.Kernel.Hand.Cov m := Cert.Words.total_of_pre _ _ _ _ (h 0).1 (h 0).2

theorem cov_ideal (m : (ℓ : Loc Cert.KernelIdeal.nD Cert.KernelIdeal.τ Cert.KernelIdeal.sig) → Buf (Elt Ideal) ℓ) (h : Pre_KernelIdeal m) :
    Cert.KernelIdeal.Hand.Cov m := Cert.Words.total_of_pre _ _ _ _ (h 0).1 (h 0).2

/-- The kernel's result is the reference's terms, when their arguments are the same. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hc : Cert.KernelIdeal.Hand.Cov m)
    (h0 : Cert.ReferenceIdeal.Hand.a0 m' 0 = Cert.KernelIdeal.Hand.dyA m 0) (h1 : Cert.ReferenceIdeal.Hand.a1 m' 0 = Cert.KernelIdeal.Hand.sz m 0)
    (h2 : Cert.ReferenceIdeal.Hand.a2 m' 0 = Cert.KernelIdeal.Hand.wA m 0) (h3 : Cert.ReferenceIdeal.Hand.a3 m' 0 = Cert.KernelIdeal.Hand.sA m 0) :
    Cert.ReferenceIdeal.Hand.outR (F := Ideal) (Cert.ReferenceIdeal.Hand.a0 m' 0) (Cert.ReferenceIdeal.Hand.codesR (Cert.ReferenceIdeal.Hand.a0 m' 0))
      (Cert.ReferenceIdeal.Hand.a1 m' 0) (Cert.ReferenceIdeal.Hand.a2 m' 0) (Cert.ReferenceIdeal.Hand.a3 m' 0) = Cert.KernelIdeal.Hand.outA m 0 := by
  funext i
  obtain ⟨r, a, rfl⟩ : ∃ (r : Fin 65536) (a : Fin 2048), i = ValueIdx.ix2 r a := ⟨i 0, i 1, by funext b; match b with | ⟨0, _⟩ => rfl | ⟨1, _⟩ => rfl⟩
  rw [h0, h1, h2, h3]
  exact Cert.ReferenceIdeal.Hand.out_at (Cert.KernelIdeal.Hand.dyA m 0) (Cert.KernelIdeal.Hand.sz m 0) hc (Cert.KernelIdeal.Hand.wA m 0) (Cert.KernelIdeal.Hand.sA m 0) r a

theorem algebraic : Cert.algebraic_KernelIdeal_ReferenceIdeal := fun m g m' g' hpre hag =>
  ⟨fun c => Cert.KernelIdeal.Hand.outA m c, Cert.KernelIdeal.Hand.run_out m g (cov_ideal m hpre),
    (θ_run _ _ _).mono (fun r h c => by
      obtain rfl : c = 0 := Subsingleton.elim _ _
      exact ⟨(h 0).1.trans (same m m' (cov_ideal m hpre) (hag 0).1 (hag 0).2.1 (hag 0).2.2.1 (hag 0).2.2.2), (h 0).2⟩)
      (Cert.ReferenceIdeal.Hand.run_ref m' g')⟩

theorem claim : Cert.Claim :=
  ⟨Cert.Kernel.Gen.facts, Cert.KernelIdeal.Gen.facts, Cert.ReferenceIdeal.Gen.facts, Cert.Pre_sizes_cover_rows.Gen.facts,
    fun m g h => Cert.Kernel.Hand.frame m g (Cert.Kernel.Hand.ok_of_cov m (cov_kernel m h)),
    fun m g h => Cert.KernelIdeal.Hand.frame m g (Cert.KernelIdeal.Hand.ok_of_cov m (cov_ideal m h)),
    fun m g _ => Cert.ReferenceIdeal.Gen.frame m g,
    fun m g _ => Cert.ReferenceIdeal.Gen.frame m g,
    trivial,
    algebraic⟩

end Cert.Proof

end
